-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = Layout.block ⟨2, ![512, 256]⟩ ⟨2, ![2048, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S512 : Shape := ⟨1, ![512]⟩
abbrev S4x128 : Shape := ⟨2, ![4, 128]⟩
abbrev S4x512x256 : Shape := ⟨3, ![4, 512, 256]⟩
abbrev S4x4x128 : Shape := ⟨3, ![4, 4, 128]⟩
abbrev S3 : Shape := ⟨1, ![3]⟩
abbrev S_ : Shape := ⟨0, ![]⟩
abbrev S1x512x256 : Shape := ⟨3, ![1, 512, 256]⟩
abbrev S1x4x128 : Shape := ⟨3, ![1, 4, 128]⟩
abbrev S1 : Shape := ⟨1, ![1]⟩
abbrev S2048x256 : Shape := ⟨2, ![2048, 256]⟩
abbrev S2048 : Shape := ⟨1, ![2048]⟩
abbrev S512x1 : Shape := ⟨2, ![512, 1]⟩
abbrev S1x1 : Shape := ⟨2, ![1, 1]⟩

abbrev nBuf : Space → Nat
  | .hbm => 47
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S512, .i32⟩
  | .hbm, ⟨2, _⟩ => ⟨S4x128, .i32⟩
  | .hbm, ⟨3, _⟩ => ⟨S4x512x256, .f32⟩
  | .hbm, ⟨4, _⟩ => ⟨S4x4x128, .i32⟩
  | .hbm, ⟨5, _⟩ => ⟨S2048x256, .f32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S1, .i32⟩
  | .hbm, ⟨33, _⟩ => ⟨S_, .i32⟩
  | .hbm, ⟨34, _⟩ => ⟨S512x1, .i32⟩
  | .hbm, ⟨35, _⟩ => ⟨S512x1, .i1⟩
  | .hbm, ⟨36, _⟩ => ⟨S1x1, .i32⟩
  | .hbm, ⟨37, _⟩ => ⟨S512x1, .i32⟩
  | .hbm, ⟨38, _⟩ => ⟨S512x1, .i1⟩
  | .hbm, ⟨39, _⟩ => ⟨S512x1, .i1⟩
  | .hbm, ⟨40, _⟩ => ⟨S_, .i1⟩
  | .hbm, ⟨41, _⟩ => ⟨S512, .i1⟩
  | .hbm, ⟨42, _⟩ => ⟨S512x256, .f32⟩
  | .hbm, ⟨43, _⟩ => ⟨S512x256, .i1⟩
  | .hbm, ⟨44, _⟩ => ⟨S_, .f32⟩
  | .hbm, ⟨45, _⟩ => ⟨S512x256, .f32⟩
  | .hbm, ⟨46, _⟩ => ⟨S512x256, .f32⟩
  | .local _ .vmem, ⟨0, _⟩ => ⟨S512x256, .f32⟩
  | .local _ .vmem, ⟨1, _⟩ => ⟨S4x128, .i32⟩
  | .local _ .vmem, ⟨2, _⟩ => ⟨S4x512x256, .f32⟩
  | .local _ .vmem, ⟨3, _⟩ => ⟨S4x4x128, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 2 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1_0 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_5 : BitVec 32 := 1#32
  let v10 : BitVec 32 := Scalar.muli v6 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_7 : BitVec 32 := 1#32
  let v12 : BitVec 32 := Scalar.muli v4 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v18 : Index := Scalar.indexCast v2
  let c0_14 : Index := 0#32
  let c0_15 : Index := 0#32
  ![v18.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : Index := Scalar.indexCast v2
  let c0_18 : Index := 0#32
  let c0_19 : Index := 0#32
  ![v24.toNat, 0, 0]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_24 : BitVec 32 := 0#32
  let c0_i32_25 : BitVec 32 := 0#32
  ![v2.toNat, 0, 0]
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_22 : BitVec 32 := 1#32
  let v28 : BitVec 32 := Scalar.muli v6 c1_i32_22
  let v29 : BitVec 32 := Scalar.addi c0_i32_23 v28
  v29.toNat
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_32 : BitVec 32 := 0#32
  let c0_i32_33 : BitVec 32 := 0#32
  ![v2.toNat, 0, 0]
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_30 : BitVec 32 := 1#32
  let v38 : BitVec 32 := Scalar.muli v6 c1_i32_30
  let v39 : BitVec 32 := Scalar.addi c0_i32_31 v38
  v39.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_38 : BitVec 32 := 1#32
  let v48 : BitVec 32 := Scalar.muli v4 c1_i32_38
  let v49 : BitVec 32 := Scalar.addi c0_i32_39 v48
  v49.toNat
def k0_dev7 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_46 : BitVec 32 := 1#32
  let v58 : BitVec 32 := Scalar.muli v4 c1_i32_46
  let v59 : BitVec 32 := Scalar.addi c0_i32_47 v58
  v59.toNat
def k0_dev8 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_54 : BitVec 32 := 1#32
  let v68 : BitVec 32 := Scalar.muli v8 c1_i32_54
  let v69 : BitVec 32 := Scalar.addi c0_i32_55 v68
  v69.toNat
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_62 : BitVec 32 := 1#32
  let v78 : BitVec 32 := Scalar.muli v8 c1_i32_62
  let v79 : BitVec 32 := Scalar.addi c0_i32_63 v78
  v79.toNat
def k0_dev10 (d0 : Dev nD) : Nat :=
  let c0_i32_160_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_159_r0 : BitVec 32 := 1#32
  let v173_r0 : BitVec 32 := Scalar.muli v6 c1_i32_159_r0
  let v174_r0 : BitVec 32 := Scalar.addi c0_i32_160_r0 v173_r0
  v174_r0.toNat
def k0_dev11 (d0 : Dev nD) : Nat :=
  let c0_i32_163_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_162_r0 : BitVec 32 := 1#32
  let v175_r0 : BitVec 32 := Scalar.muli v4 c1_i32_162_r0
  let v176_r0 : BitVec 32 := Scalar.addi c0_i32_163_r0 v175_r0
  v176_r0.toNat
def k0_dev12 (d0 : Dev nD) : Nat :=
  let c0_i32_166_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_165_r0 : BitVec 32 := 1#32
  let v177_r0 : BitVec 32 := Scalar.muli v8 c1_i32_165_r0
  let v178_r0 : BitVec 32 := Scalar.addi c0_i32_166_r0 v177_r0
  v178_r0.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x256 : Shape := ⟨2, ![2048, 256]⟩
abbrev S2048 : Shape := ⟨1, ![2048]⟩
abbrev S_ : Shape := ⟨0, ![]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.IdealProtocol.lean ====
/-
  The protocol of the gathering call on four devices, written down before it is proved (program `KernelIdeal`).

  Device `c` has three peers, numbered 0, 1, 2: the devices at distance 1, 3 and 2 after it. In the body it signals the
  barrier of each peer once and waits for three units on its own; copies its own block of x and of dest into row `c` of its
  two gathering buffers; starts, for each peer, one remote copy of each row into the same row of the peer's buffers; waits
  on the six send and the six receive semaphores; and closes with a second barrier of the same form.

  * the barrier unit a device pays to a peer hands that peer the row the peer will fill, in both of the payer's buffers;
  * a send semaphore hands back the share of the row lent to the copy;
  * a receive semaphore hands over the row its payer filled, holding the payer's block;
  * the second barrier hands over nothing.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Regions
public import Idealize.ShloMosaic.Lib.Pipeline.Kit
public import Idealize.ShloMosaic.Lib.Pipeline.ValueKit.Geometry
public import Idealize.ShloMosaic.Lib.Ring
public import Idealize.ShloMosaic.Lib.Ring.Trips
public import Idealize.ShloMosaic.Lib.ValueIdx
public import Idealize.ShloMosaic.Lib.Pipeline.Value
public import Idealize.ShloMosaic.Lib.Tactic

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

/-! ## The resource algebra: the staging pipeline's copy and the protocol's -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The peers -/

/-- Peer `k` of device `c`: the device 1, 3 or 2 places after it. -/
def peer (k : Fin 3) (c : Dev nD) : Dev nD := ⟨(c.val + (![1, 3, 2] : Fin 3 → ℕ) k) % 4, Nat.mod_lt _ (by decide)⟩
/-- The number under which a device's peer `k` knows that device. -/
def opp : Fin 3 → Fin 3 := ![1, 0, 2]

/-- A device is peer `opp k` of its own peer `k`, -/
theorem peer_opp_peer (k : Fin 3) (c : Dev nD) : peer (opp k) (peer k c) = c := by revert k c; decide
/-- and peer `k` of its own peer `opp k`. -/
theorem peer_peer_opp (k : Fin 3) (c : Dev nD) : peer k (peer (opp k) c) = c := by revert k c; decide
theorem opp_opp (k : Fin 3) : opp (opp k) = k := by revert k; decide

/-- The four devices: a device and its three peers. -/
theorem univ_peers (c : Dev nD) : (Finset.univ : Finset (Dev nD)) = [c, peer 0 c, peer 1 c, peer 2 c].toFinset := by revert c; decide
theorem nodup_peers (c : Dev nD) : [c, peer 0 c, peer 1 c, peer 2 c].Nodup := by revert c; decide

/-! ## The rows -/

/-- Row `r` of the gathering buffer of x, as the body's copies name it. -/
abbrev rowX (r : Dev nD) : Memref sig .tc .vmem S512x256 .f32 :=
  ((Memref.whole cc0_stg2_0).slice (Rect.unit (s := S4x512x256) (k0_off3 r) S1x512x256.size (k0_off3_inb r)) (fun _ => rfl)).squeeze
    S512x256 squeezes_S1x512x256_S512x256
/-- Row `r` of the gathering buffer of dest, as the body's copies name it. -/
abbrev rowD (r : Dev nD) : Memref sig .tc .vmem S4x128 .i32 :=
  ((Memref.whole cc0_stg3_0).slice (Rect.unit (s := S4x4x128) (k0_off4 r) S1x4x128.size (k0_off4_inb r)) (fun _ => rfl)).squeeze
    S4x128 squeezes_S1x4x128_S4x128

abbrev BufX (F : FTy → Type) : Type := (cc0_stg2_0 : Ref sig .tc).ty.Contents (Elt F)
abbrev BufD (F : FTy → Type) : Type := (cc0_stg3_0 : Ref sig .tc).ty.Contents (Elt F)

/-- Row `r` of device `c`'s gathering buffer of x, held at share `q` at contents `f`. -/
abbrev xPts (c r : Dev nD) (q : PosShare TreeShare) (f : BufX F) : sProp 𝕄 :=
  (rowX r).view.loc (c : Thread nD τ) ↦[(rowX r).view.set]{q} f
/-- Row `r` of device `c`'s gathering buffer of dest, held at share `q` at contents `f`. -/
abbrev dPts (c r : Dev nD) (q : PosShare TreeShare) (f : BufD F) : sProp 𝕄 :=
  (rowD r).view.loc (c : Thread nD τ) ↦[(rowD r).view.set]{q} f

variable (xs : Dev nD → Vec F S512x256 .f32) (ds : Dev nD → Vec F S4x128 .i32)

/-- The gathered x: row `r` is device `r`'s block. -/
def gX : BufX F := fun i => xs (i 0) (ix2 (i 1) (i 2))
/-- The gathered dest: row `r` is device `r`'s block. -/
def gD : BufD F := fun i => ds (i 0) (ix2 (i 1) (i 2))

theorem off3_val (r : Dev nD) : k0_off3 r = ![r.val, 0, 0] := k0_off3_eq r
theorem off4_val (r : Dev nD) : k0_off4 r = ![r.val, 0, 0] := k0_off4_eq r

/-- An element is in row `r` when its first coordinate is `r`. -/
theorem mem_rowX (r : Dev nD) (i : S4x512x256.Idx) : i ∈ (rowX r).view.set ↔ i 0 = r := by
  rw [show (rowX r).view.set = (Rect.unit (s := S4x512x256) (k0_off3 r) S1x512x256.size (k0_off3_inb r)).set from
    (View.set_reshape _ _).trans (View.set_slice_whole _ _), Rect.mem_set_unit, off3_val]
  constructor
  · intro h
    have h0 : r.val ≤ (i 0).val ∧ (i 0).val < r.val + 1 := h 0
    exact Fin.ext (by omega)
  · rintro rfl
    exact fun
      | ⟨0, _⟩ => ⟨le_refl _, Nat.lt_succ_self _⟩
      | ⟨1, _⟩ => ⟨Nat.zero_le _, (i 1).isLt.trans_eq (Nat.zero_add _).symm⟩
      | ⟨2, _⟩ => ⟨Nat.zero_le _, (i 2).isLt.trans_eq (Nat.zero_add _).symm⟩

/-- The same of the buffer of dest. -/
theorem mem_rowD (r : Dev nD) (i : S4x4x128.Idx) : i ∈ (rowD r).view.set ↔ i 0 = r := by
  rw [show (rowD r).view.set = (Rect.unit (s := S4x4x128) (k0_off4 r) S1x4x128.size (k0_off4_inb r)).set from
    (View.set_reshape _ _).trans (View.set_slice_whole _ _), Rect.mem_set_unit, off4_val]
  constructor
  · intro h
    have h0 : r.val ≤ (i 0).val ∧ (i 0).val < r.val + 1 := h 0
    exact Fin.ext (by omega)
  · rintro rfl
    exact fun
      | ⟨0, _⟩ => ⟨le_refl _, Nat.lt_succ_self _⟩
      | ⟨1, _⟩ => ⟨Nat.zero_le _, (i 1).isLt.trans_eq (Nat.zero_add _).symm⟩
      | ⟨2, _⟩ => ⟨Nat.zero_le _, (i 2).isLt.trans_eq (Nat.zero_add _).symm⟩

theorem rowX_disjoint (r r' : Dev nD) (h : r ≠ r') : Disjoint (rowX r).view.set (rowX r').view.set :=
  Finset.disjoint_left.mpr fun i hi hi' => h (((mem_rowX r i).mp hi).symm.trans ((mem_rowX r' i).mp hi'))
theorem rowX_cover : (Finset.univ.biUnion fun r : Dev nD => (rowX r).view.set) = (Finset.univ : Finset S4x512x256.Idx) :=
  Finset.eq_univ_iff_forall.mpr fun i => Finset.mem_biUnion.mpr ⟨i 0, Finset.mem_univ _, (mem_rowX _ i).mpr rfl⟩
theorem rowD_disjoint (r r' : Dev nD) (h : r ≠ r') : Disjoint (rowD r).view.set (rowD r').view.set :=
  Finset.disjoint_left.mpr fun i hi hi' => h (((mem_rowD r i).mp hi).symm.trans ((mem_rowD r' i).mp hi'))
theorem rowD_cover : (Finset.univ.biUnion fun r : Dev nD => (rowD r).view.set) = (Finset.univ : Finset S4x4x128.Idx) :=
  Finset.eq_univ_iff_forall.mpr fun i => Finset.mem_biUnion.mpr ⟨i 0, Finset.mem_univ _, (mem_rowD _ i).mpr rfl⟩

/-- A gathering buffer of x held whole is its four rows held, the device's own first. -/
theorem rowsX (c : Dev nD) (f : BufX F) :
    ((c : Thread nD τ).loc cc0_stg2_0 ↦{fullShare} f : sProp 𝕄)
      = iprop(xPts c c fullShare f ∗ xPts c (peer 0 c) fullShare f ∗ xPts c (peer 1 c) fullShare f ∗ xPts c (peer 2 c) fullShare f) :=
  (Ring.pointsTo_blocks (ℓ := (c : Thread nD τ).loc cc0_stg2_0) (fun r : Dev nD => (rowX r).view.set) rowX_disjoint rowX_cover f).trans
    (bigSep_univ_eq_bigSepL [c, peer 0 c, peer 1 c, peer 2 c] (univ_peers c) (nodup_peers c) _)
/-- A gathering buffer of dest held whole is its four rows held, the device's own first. -/
theorem rowsD (c : Dev nD) (f : BufD F) :
    ((c : Thread nD τ).loc cc0_stg3_0 ↦{fullShare} f : sProp 𝕄)
      = iprop(dPts c c fullShare f ∗ dPts c (peer 0 c) fullShare f ∗ dPts c (peer 1 c) fullShare f ∗ dPts c (peer 2 c) fullShare f) :=
  (Ring.pointsTo_blocks (ℓ := (c : Thread nD τ).loc cc0_stg3_0) (fun r : Dev nD => (rowD r).view.set) rowD_disjoint rowD_cover f).trans
    (bigSep_univ_eq_bigSepL [c, peer 0 c, peer 1 c, peer 2 c] (univ_peers c) (nodup_peers c) _)

/-- A row copied from a buffer holding `g` holds `g`, whatever the row held before. -/
theorem landX (c r : Dev nD) (f g : BufX F) :
    xPts c r fullShare ((rowX r).view.write (Elt F) f ((rowX r).view.read (Elt F) g) Finset.univ) = (xPts c r fullShare g : sProp 𝕄) :=
  pointsTo_congr fun i hi => by
    rw [View.write_read_eq_piecewise, View.setOn_univ]; exact Finset.piecewise_eq_of_mem _ _ _ hi
/-- The same of the buffer of dest. -/
theorem landD (c r : Dev nD) (f g : BufD F) :
    dPts c r fullShare ((rowD r).view.write (Elt F) f ((rowD r).view.read (Elt F) g) Finset.univ) = (dPts c r fullShare g : sProp 𝕄) :=
  pointsTo_congr fun i hi => by
    rw [View.write_read_eq_piecewise, View.setOn_univ]; exact Finset.piecewise_eq_of_mem _ _ _ hi

/-- The body's stores go through row `c`. -/
abbrev accX (c : Dev nD) := (Memref.whole cc0_stg2_0 : Memref sig .tc .vmem S4x512x256 .f32).access
  (Rect.unit (s := S4x512x256) (k0_off1 c) S1x512x256.size (k0_off1_inb c))
abbrev accD (c : Dev nD) := (Memref.whole cc0_stg3_0 : Memref sig .tc .vmem S4x4x128 .i32).access
  (Rect.unit (s := S4x4x128) (k0_off2 c) S1x4x128.size (k0_off2_inb c))
theorem accX_set (c : Dev nD) : (accX c).set = (rowX c).view.set := (View.set_reshape _ _).symm
theorem accD_set (c : Dev nD) : (accD c).set = (rowD c).view.set := (View.set_reshape _ _).symm

/-- A block with a unit axis put in front, read at an index: its first coordinate dropped. -/
theorem pay1_apply (v : Vec F S512x256 .f32) (y : S1x512x256.Idx) : k0_pay1 v y = v (ix2 (y 1) (y 2)) := by
  show shapeCast S1x512x256 (shapeCast S512x256 v _) _ y = _
  rw [shapeCast_self]
  refine (shapeCast_addUnit_apply (![512, 256] : Fin 2 → ℕ) v _ y).trans (congrArg v ?_)
  exact funext fun | ⟨0, _⟩ => rfl | ⟨1, _⟩ => rfl
theorem pay3_apply (v : Vec F S4x128 .i32) (y : S1x4x128.Idx) : k0_pay3 (k0_pay2 (F := F) v) y = v (ix2 (y 1) (y 2)) := by
  show shapeCast S1x4x128 (shapeCast S4x128 v _) _ y = _
  rw [shapeCast_self]
  refine (shapeCast_addUnit_apply (![4, 128] : Fin 2 → ℕ) v _ y).trans (congrArg v ?_)
  exact funext fun | ⟨0, _⟩ => rfl | ⟨1, _⟩ => rfl

/-- Row `c` after the body's store of its block of x holds the gathered x. -/
theorem storeX (c : Dev nD) (f : BufX F) :
    xPts c c fullShare ((accX c).write (Elt F) f (k0_pay1 (xs c)) Finset.univ) = (xPts c c fullShare (gX xs) : sProp 𝕄) :=
  pointsTo_congr fun i hi => by
    rw [← accX_set] at hi
    obtain ⟨y, -, rfl⟩ := Finset.mem_map.mp hi
    rw [View.write_emb_of_mem _ _ (Finset.mem_univ _)]
    have h0 : (accX c).emb y 0 = c := (mem_rowX c _).mp (by rw [← accX_set]; exact (accX c).emb_mem_set y)
    show k0_pay1 (xs c) y = xs ((accX c).emb y 0) (ix2 ((accX c).emb y 1) ((accX c).emb y 2))
    rw [h0, pay1_apply]
    refine congrArg _ (funext fun | ⟨0, _⟩ => Fin.ext ?_ | ⟨1, _⟩ => Fin.ext ?_)
    · show (y 1).val = ((accX c).emb y 1).val
      rw [ValueKit.view_emb_slice_whole_unit_val]; exact (Nat.zero_add _).symm
    · show (y 2).val = ((accX c).emb y 2).val
      rw [ValueKit.view_emb_slice_whole_unit_val]; exact (Nat.zero_add _).symm
/-- Row `c` after the body's store of its block of dest holds the gathered dest. -/
theorem storeD (c : Dev nD) (f : BufD F) :
    dPts c c fullShare ((accD c).write (Elt F) f (k0_pay3 (k0_pay2 (ds c))) Finset.univ) = (dPts c c fullShare (gD ds) : sProp 𝕄) :=
  pointsTo_congr fun i hi => by
    rw [← accD_set] at hi
    obtain ⟨y, -, rfl⟩ := Finset.mem_map.mp hi
    rw [View.write_emb_of_mem _ _ (Finset.mem_univ _)]
    have h0 : (accD c).emb y 0 = c := (mem_rowD c _).mp (by rw [← accD_set]; exact (accD c).emb_mem_set y)
    show k0_pay3 (k0_pay2 (ds c)) y = ds ((accD c).emb y 0) (ix2 ((accD c).emb y 1) ((accD c).emb y 2))
    rw [h0, pay3_apply]
    refine congrArg _ (funext fun | ⟨0, _⟩ => Fin.ext ?_ | ⟨1, _⟩ => Fin.ext ?_)
    · show (y 1).val = ((accD c).emb y 1).val
      rw [ValueKit.view_emb_slice_whole_unit_val]; exact (Nat.zero_add _).symm
    · show (y 2).val = ((accD c).emb y 2).val
      rw [ValueKit.view_emb_slice_whole_unit_val]; exact (Nat.zero_add _).symm

/-- What a copy of one row credits. -/
abbrev NX : ℕ := (rowX 0).view.dmaCredit
abbrev ND : ℕ := (rowD 0).view.dmaCredit
theorem NX_pos : 0 < NX := View.dmaCredit_pos _ (by decide)
theorem ND_pos : 0 < ND := View.dmaCredit_pos _ (by decide)
theorem NX_row (r : Dev nD) : (rowX r).view.dmaCredit = NX := rfl
theorem ND_row (r : Dev nD) : (rowD r).view.dmaCredit = ND := rfl

/-! ## The semaphores -/

/-- The barrier semaphore, and the second barrier's. -/
abbrev barS : Sem sig := (SemArray.scalar (sig.barrier 0 rfl) : Sems sig S_).sem
abbrev secS : Sem sig := cc0_scoped0.sem
/-- The send and receive semaphores of the copies of x and of dest, by peer. -/
def xsS (k : Fin 3) : DmaSem sig := ⟨4 + k.val, by have := k.isLt; show 4 + k.val < 16; omega⟩
def xrS (k : Fin 3) : DmaSem sig := ⟨7 + k.val, by have := k.isLt; show 7 + k.val < 16; omega⟩
def dsS (k : Fin 3) : DmaSem sig := ⟨10 + k.val, by have := k.isLt; show 10 + k.val < 16; omega⟩
def drS (k : Fin 3) : DmaSem sig := ⟨13 + k.val, by have := k.isLt; show 13 + k.val < 16; omega⟩

abbrev barCell (c : Dev nD) : GSem nD τ sig := ((c : Thread nD τ), .reg barS)
abbrev secCell (c : Dev nD) : GSem nD τ sig := ((c : Thread nD τ), .reg secS)
abbrev xsCell (k : Fin 3) (c : Dev nD) : GSem nD τ sig := ((c : Thread nD τ), .dma (xsS k))
abbrev xrCell (k : Fin 3) (c : Dev nD) : GSem nD τ sig := ((c : Thread nD τ), .dma (xrS k))
abbrev dsCell (k : Fin 3) (c : Dev nD) : GSem nD τ sig := ((c : Thread nD τ), .dma (dsS k))
abbrev drCell (k : Fin 3) (c : Dev nD) : GSem nD τ sig := ((c : Thread nD τ), .dma (drS k))

/-! ## The schedule: one round per cell -/

/-- What the barrier unit from peer `k` hands device `c`: row `c` of the peer's two buffers, and that the peer's receive
    semaphores device `c` pays, and its second barrier, are in their one round. -/
def barPay (c : Dev nD) (k : Fin 3) : sProp 𝕄 :=
  iprop((∃ f, xPts (peer k c) c fullShare f) ∗ (∃ f, dPts (peer k c) c fullShare f)
    ∗ reached ER (xrCell k (peer k c)) 0 ∗ reached ER (drCell k (peer k c)) 0 ∗ reached ER (secCell (peer k c)) 0)

/-- What a DMA semaphore hands device `c`: on a send semaphore its own row at the share lent to that copy, on a receive
    semaphore the row its payer filled. -/
def dmaPay (c : Dev nD) (i : ℕ) : sProp 𝕄 :=
  if i < 4 then iprop(emp)
  else if i < 7 then xPts c c (Ring.shares3 fullShare (Fin.ofNat 3 (i - 4))) (gX xs)
  else if i < 10 then xPts c (peer (opp (Fin.ofNat 3 (i - 7))) c) fullShare (gX xs)
  else if i < 13 then dPts c c (Ring.shares3 fullShare (Fin.ofNat 3 (i - 10))) (gD ds)
  else dPts c (peer (opp (Fin.ofNat 3 (i - 13))) c) fullShare (gD ds)

/-- The duties of a semaphore's one round: a barrier's are one per peer, a DMA semaphore's is the one copy counted on it. -/
def duty : SemLoc sig → Finset (Fin 3)
  | .reg _ => Finset.univ
  | .dma i => if i.val < 4 then ∅ else {0}
/-- The units of one duty. -/
def units : SemLoc sig → ℕ
  | .reg _ => 1
  | .dma i => if i.val < 10 then NX else ND
/-- The payload of one duty. -/
def pays (c : Dev nD) (d : Fin 3) : SemLoc sig → sProp 𝕄
  | .reg s => if s = barS then barPay c d else iprop(emp)
  | .dma i => dmaPay xs ds c i.val

theorem units_pos (sm : SemLoc sig) : 0 < units sm := by
  unfold units
  split
  · exact Nat.one_pos
  · split
    · exact NX_pos
    · exact ND_pos

/-- The protocol: round 0 of every cell of a TensorCore, and no other. -/
def rd : Rounds.Schedule (GSem nD τ sig) (Fin 3) 𝕄 where
  duties g r := if r = 0 then duty g.2 else ∅
  unitless _ := False
  amount g _ _ := units g.2
  payload g _ d := pays xs ds g.1.1 d g.2
  amount_pos g _ _ _ := units_pos g.2

instance rd_storable (g : GSem nD τ sig) (r : ℕ) (d : Fin 3) : BI.Storable (upEmb : UEmb _ 𝕄) ((rd xs ds).payload g r d) := by
  show BI.Storable upEmb (pays xs ds g.1.1 d g.2)
  unfold pays barPay dmaPay
  (repeat' split) <;> infer_instance

theorem duties_later (g : GSem nD τ sig) : ∀ r, 1 ≤ r → (rd xs ds).duties g r = ∅ :=
  fun r hr => if_neg (by omega)

section Tables
variable (c : Dev nD) (k : Fin 3) (d : Fin 3)

theorem duties_reg (s : Sem sig) : (rd xs ds).duties ((c : Thread nD τ), .reg s) 0 = Finset.univ := rfl
theorem mem_reg (s : Sem sig) : d ∈ (rd xs ds).duties ((c : Thread nD τ), .reg s) 0 := Finset.mem_univ d
theorem duties_xs : (rd xs ds).duties (xsCell k c) 0 = {0} := by fin_cases k <;> rfl
theorem duties_xr : (rd xs ds).duties (xrCell k c) 0 = {0} := by fin_cases k <;> rfl
theorem duties_ds : (rd xs ds).duties (dsCell k c) 0 = {0} := by fin_cases k <;> rfl
theorem duties_dr : (rd xs ds).duties (drCell k c) 0 = {0} := by fin_cases k <;> rfl

theorem amount_reg (s : Sem sig) : (rd xs ds).amount ((c : Thread nD τ), .reg s) 0 d = 1 := rfl
theorem amount_xs : (rd xs ds).amount (xsCell k c) 0 d = NX := by fin_cases k <;> rfl
theorem amount_xr : (rd xs ds).amount (xrCell k c) 0 d = NX := by fin_cases k <;> rfl
theorem amount_ds : (rd xs ds).amount (dsCell k c) 0 d = ND := by fin_cases k <;> rfl
theorem amount_dr : (rd xs ds).amount (drCell k c) 0 d = ND := by fin_cases k <;> rfl

theorem expect_reg (s : Sem sig) : (rd xs ds).expect ((c : Thread nD τ), .reg s) 0 = 3 := by
  unfold Schedule.expect Schedule.amountOf; rw [duties_reg]; rfl
theorem expect_xs : (rd xs ds).expect (xsCell k c) 0 = NX := by
  unfold Schedule.expect Schedule.amountOf; rw [duties_xs, Finset.sum_singleton, amount_xs]
theorem expect_xr : (rd xs ds).expect (xrCell k c) 0 = NX := by
  unfold Schedule.expect Schedule.amountOf; rw [duties_xr, Finset.sum_singleton, amount_xr]
theorem expect_ds : (rd xs ds).expect (dsCell k c) 0 = ND := by
  unfold Schedule.expect Schedule.amountOf; rw [duties_ds, Finset.sum_singleton, amount_ds]
theorem expect_dr : (rd xs ds).expect (drCell k c) 0 = ND := by
  unfold Schedule.expect Schedule.amountOf; rw [duties_dr, Finset.sum_singleton, amount_dr]

theorem payload_bar : (rd xs ds).payload (barCell c) 0 d = barPay c d := rfl
theorem payload_sec : (rd xs ds).payload (secCell c) 0 d = iprop(emp) := rfl
theorem payload_xs : (rd xs ds).payload (xsCell k c) 0 d = xPts c c (Ring.shares3 fullShare k) (gX xs) := by fin_cases k <;> rfl
theorem payload_xr : (rd xs ds).payload (xrCell k c) 0 d = xPts c (peer (opp k) c) fullShare (gX xs) := by fin_cases k <;> rfl
theorem payload_ds : (rd xs ds).payload (dsCell k c) 0 d = dPts c c (Ring.shares3 fullShare k) (gD ds) := by fin_cases k <;> rfl
theorem payload_dr : (rd xs ds).payload (drCell k c) 0 d = dPts c (peer (opp k) c) fullShare (gD ds) := by fin_cases k <;> rfl

theorem rest_xs : bigSep ((rd xs ds).duties (xsCell k c) 0 \ ∅) (fun d => (rd xs ds).payload (xsCell k c) 0 d)
    = xPts c c (Ring.shares3 fullShare k) (gX xs) := by
  rw [Finset.sdiff_empty, duties_xs, bigSep_singleton, payload_xs]
theorem rest_xr : bigSep ((rd xs ds).duties (xrCell k c) 0 \ ∅) (fun d => (rd xs ds).payload (xrCell k c) 0 d)
    = xPts c (peer (opp k) c) fullShare (gX xs) := by
  rw [Finset.sdiff_empty, duties_xr, bigSep_singleton, payload_xr]
theorem rest_ds : bigSep ((rd xs ds).duties (dsCell k c) 0 \ ∅) (fun d => (rd xs ds).payload (dsCell k c) 0 d)
    = dPts c c (Ring.shares3 fullShare k) (gD ds) := by
  rw [Finset.sdiff_empty, duties_ds, bigSep_singleton, payload_ds]
theorem rest_dr : bigSep ((rd xs ds).duties (drCell k c) 0 \ ∅) (fun d => (rd xs ds).payload (drCell k c) 0 d)
    = dPts c (peer (opp k) c) fullShare (gD ds) := by
  rw [Finset.sdiff_empty, duties_dr, bigSep_singleton, payload_dr]
theorem rest_bar : bigSep ((rd xs ds).duties (barCell c) 0 \ ∅) (fun d => (rd xs ds).payload (barCell c) 0 d)
    = (iprop(barPay c 0 ∗ barPay c 1 ∗ barPay c 2) : sProp 𝕄) := by
  rw [Finset.sdiff_empty]
  exact bigSep_univ_eq_bigSepL [0, 1, 2] (by decide) (by decide) _

end Tables

/-! ## What each device owes, in the order it pays -/

/-- Payment `n` counted from the last: the peer it goes to, the semaphore, the units. The three second-barrier units are
    last, the six copies before them, the three barrier units first. -/
def pay : ℕ → Fin 3 × SemLoc sig × ℕ
  | 0 => (2, .reg secS, 1) | 1 => (1, .reg secS, 1) | 2 => (0, .reg secS, 1)
  | 3 => (2, .dma (drS 2), ND) | 4 => (2, .dma (xrS 2), NX) | 5 => (1, .dma (drS 1), ND)
  | 6 => (1, .dma (xrS 1), NX) | 7 => (0, .dma (drS 0), ND) | 8 => (0, .dma (xrS 0), NX)
  | 9 => (2, .reg barS, 1) | 10 => (1, .reg barS, 1) | _ => (0, .reg barS, 1)

/-- One payment of device `c`, as a tally. -/
abbrev due (c : Dev nD) (n : ℕ) : CellTallies nD τ sig Unit := tallyAt ((peer (pay n).1 c : Thread nD τ), (pay n).2.1) () (pay n).2.2

/-- What device `c` owes when its last `n` payments are to be made. -/
def owe (c : Dev nD) : ℕ → CellTallies nD τ sig Unit
  | 0 => 0
  | n + 1 => owe c n + due c n

/-- Levels: send semaphores 0, the barrier 1, receive semaphores 2, the second barrier 3. -/
def slev : SemLoc sig → ℕ
  | .reg s => if s = barS then 1 else 3
  | .dma i => if (7 ≤ i.val ∧ i.val < 10) ∨ 13 ≤ i.val then 2 else 0

def L (g : GSem nD τ sig) : Finset Unit := if g.1.2 = .tc then {()} else ∅
def lv (g : GSem nD τ sig) (_ : Unit) : ℕ := slev g.2

theorem L_of_ne (g : GSem nD τ sig) (h : g.1.2 ≠ .tc) : L g = ∅ := if_neg h
theorem L_tc (c : Dev nD) (sm : SemLoc sig) : L ((c : Thread nD τ), sm) = {()} := if_pos rfl

/-- A cell something is owed on is one of the payments'. -/
theorem owe_pos (c : Dev nD) (n : ℕ) (g : GSem nD τ sig) (u : Unit) (h : 0 < owe c n g u) :
    ∃ i, i < n ∧ g = ((peer (pay i).1 c : Thread nD τ), (pay i).2.1) := by
  induction n with
  | zero => exact absurd h (Nat.lt_irrefl 0)
  | succ n ih =>
    by_cases h' : 0 < owe c n g u
    · obtain ⟨i, hi, e⟩ := ih h'
      exact ⟨i, Nat.lt_succ_of_lt hi, e⟩
    · refine ⟨n, Nat.lt_succ_self n, ?_⟩
      by_contra hne
      have e : owe c (n + 1) g u = owe c n g u + due c n g u := rfl
      rw [e, tallyAt_apply, if_neg (fun hh => hne hh.1)] at h
      exact h' h

/-- A device may wait on a semaphore of a level under every payment it still has to make. -/
theorem mayWait (c : Dev nD) (sm : SemLoc sig) (n : ℕ) (h : ∀ i, i < n → slev sm < slev (pay i).2.1) :
    (levAts L lv : sProp 𝕄) ⊢ MayWait (c : Thread nD τ) sm () (owe c n) :=
  MayOwe.of_cut (L := L) (lev := lv) (slev sm) (fun p hp => by rw [Finset.mem_singleton.mp hp, L_tc]; exact Finset.mem_singleton_self _)
    (fun g u hg => by
      obtain ⟨i, -, rfl⟩ := owe_pos c n g u hg
      rw [L_tc]; exact Finset.mem_singleton_self _)
    (fun p hp => by rw [Finset.mem_singleton.mp hp]; exact le_refl _)
    (fun g u hg => by
      obtain ⟨i, hi, rfl⟩ := owe_pos c n g u hg
      exact h i hi)

theorem lev_bar : ∀ i, i < 9 → slev (.reg barS) < slev (pay i).2.1 := by decide
theorem lev_xs (k : Fin 3) : ∀ i, i < 3 → slev (.dma (xsS k)) < slev (pay i).2.1 := by revert k; decide
theorem lev_xr (k : Fin 3) : ∀ i, i < 3 → slev (.dma (xrS k)) < slev (pay i).2.1 := by revert k; decide
theorem lev_ds (k : Fin 3) : ∀ i, i < 3 → slev (.dma (dsS k)) < slev (pay i).2.1 := by revert k; decide
theorem lev_dr (k : Fin 3) : ∀ i, i < 3 → slev (.dma (drS k)) < slev (pay i).2.1 := by revert k; decide

end Cert.KernelIdeal.Talk

end
-- ==== Proof.IdealBody.lean ====
/-
  The body of the gathering call, proved once at a symbolic device (program `KernelIdeal`): from the two staged blocks and
  two gathering buffers at any contents, to gathering buffers holding every device's block, every semaphore of the exchange
  counted out, and nothing owed.
-/
module

public import proofs.«01_k».proof.Proof.IdealProtocol

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- No variants. -/
abbrev 𝒱₀ : Variants := Variants.none

/-! ## The cells, and the records every device reads -/

/-- The semaphores of the exchange that belong to the call: the second barrier's and the twelve of the copies. -/
def osem (j : Fin 13) : SemLoc sig := if j = 0 then .reg secS else .dma ⟨3 + j.val, by have := j.isLt; show 3 + j.val < 16; omega⟩
theorem osem_inj : Function.Injective osem := by decide

/-- The barrier's cells, and the cells of the call's own semaphores. -/
def barCells : Finset (GSem nD τ sig) :=
  Finset.univ.map ⟨fun c : Dev nD => barCell c, fun _ _ h => congrArg (fun g : GSem nD τ sig => g.1.1) h⟩
def scCells : Finset (GSem nD τ sig) :=
  Finset.univ.map ⟨fun p : Dev nD × Fin 13 => ((p.1 : Thread nD τ), osem p.2), fun a b h =>
    Prod.ext (congrArg (fun g : GSem nD τ sig => g.1.1) h) (osem_inj (congrArg (fun g : GSem nD τ sig => g.2) h))⟩

theorem mem_bar (c : Dev nD) : barCell c ∈ barCells ∪ scCells :=
  Finset.mem_union_left _ (Finset.mem_map_of_mem _ (Finset.mem_univ c))
theorem mem_osem (c : Dev nD) (j : Fin 13) : ((c : Thread nD τ), osem j) ∈ barCells ∪ scCells :=
  Finset.mem_union_right _ (Finset.mem_map.mpr ⟨(c, j), Finset.mem_univ _, rfl⟩)
theorem osem_sec : osem 0 = .reg secS := rfl
theorem osem_xs (k : Fin 3) : osem ⟨1 + k.val, by omega⟩ = .dma (xsS k) := by revert k; decide
theorem osem_xr (k : Fin 3) : osem ⟨4 + k.val, by omega⟩ = .dma (xrS k) := by revert k; decide
theorem osem_ds (k : Fin 3) : osem ⟨7 + k.val, by omega⟩ = .dma (dsS k) := by revert k; decide
theorem osem_dr (k : Fin 3) : osem ⟨10 + k.val, by omega⟩ = .dma (drS k) := by revert k; decide
theorem mem_sec (c : Dev nD) : secCell c ∈ barCells ∪ scCells := mem_osem c 0
theorem mem_xs (k : Fin 3) (c : Dev nD) : xsCell k c ∈ barCells ∪ scCells := by rw [xsCell, ← osem_xs]; exact mem_osem c _
theorem mem_xr (k : Fin 3) (c : Dev nD) : xrCell k c ∈ barCells ∪ scCells := by rw [xrCell, ← osem_xr]; exact mem_osem c _
theorem mem_ds (k : Fin 3) (c : Dev nD) : dsCell k c ∈ barCells ∪ scCells := by rw [dsCell, ← osem_ds]; exact mem_osem c _
theorem mem_dr (k : Fin 3) (c : Dev nD) : drCell k c ∈ barCells ∪ scCells := by rw [drCell, ← osem_dr]; exact mem_osem c _

variable (xs : Dev nD → Vec F S512x256 .f32) (ds : Dev nD → Vec F S4x128 .i32)

/-- What every device may read at any time: the protocol's invariant of every cell, at names `κ`. -/
def recs (κ : GSem nD τ sig → ℕ) : sProp 𝕄 := bigSep (barCells ∪ scCells) fun g => cellInv ER (rd xs ds) (κ g) g

instance recs_persistent (κ : GSem nD τ sig → ℕ) : BI.Persistent (recs xs ds κ) := by unfold recs; infer_instance

/-- The records give the invariant of each cell. -/
theorem recs_get (κ : GSem nD τ sig → ℕ) (g : GSem nD τ sig) (hg : g ∈ barCells ∪ scCells) :
    recs xs ds κ ⊢ cellInv ER (rd xs ds) (κ g) g := bigSep_elim hg

/-- A device owes `O`, whatever it has recorded of its waits. -/
def owing (c : Dev nD) (O : CellTallies nD τ sig Unit) : sProp 𝕄 := iprop(∃ W, owes (c : Thread nD τ) O W)

theorem owe_succ (c : Dev nD) (N : ℕ) : owe c (N + 1) = owe c N + due c N := rfl

/-! ## One step of each kind -/

section Steps
variable (κ : GSem nD τ sig → ℕ) (c : Dev nD)

/-- A cell past its one round is closed: its counter is at zero. -/
theorem close (g : GSem nD τ sig) (hg : g ∈ barCells ∪ scCells) :
    iprop(recs xs ds κ ∗ atPos ER g 1 ∅ 0) ⊢ (iprop(|={Set.univ}=> semVal g 0) : sProp 𝕄) :=
  (sep_mono_left (recs_get xs ds κ g hg)).trans (Rounds.cell_close ER (rd xs ds) (Set.mem_univ _) id (duties_later xs ds g))

/-- A signal to peer `k`, on the barrier or the second barrier: the device pays its unit with the unit's payload. -/
theorem step_signal {α : Type} {Q : α → sProp 𝕄}
    {kt : PUnit → Prog (TpuEff nD τ sig (Elt F) Λ₀ .tc) α} (s : Sem sig) (n : Dev nD) (k : Fin 3) (hn : n = peer k c)
    (hg : ((peer k c : Thread nD τ), SemLoc.reg s) ∈ barCells ∪ scCells) (N : ℕ)
    (hdue : due c N = tallyAt ((peer k c : Thread nD τ), .reg s) () 1) {z : ℤ} (hz : z = ((1 : ℕ) : ℤ)) :
    iprop(recs xs ds κ ∗ owing c (owe c (N + 1)) ∗ dutyTok ER ((peer k c : Thread nD τ), .reg s) 0 (opp k)
        ∗ (rd xs ds).payload ((peer k c : Thread nD τ), .reg s) 0 (opp k) ∗ reached ER ((peer k c : Thread nD τ), .reg s) 0)
      ⊢ iprop((owing c (owe c N) -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n : Thread nD τ) s z) kt) Q) := by
  subst hn hz
  unfold owing
  iintro ⟨#HR, ⟨%W, HO⟩, Ht, Hp, Hr⟩ Hk
  iapply (Rounds.wp_signal 𝒱₀ ER (rd xs ds) (c : Thread nD τ) none (dst := (peer k c : Thread nD τ)) (κ := κ ((peer k c : Thread nD τ), .reg s))
      (d := opp k) (r := 0) (mem_reg xs ds _ _ _) (amount_reg xs ds _ _ _) () (owe c N) (W := W) ((owe_succ c N).trans (congrArg _ hdue))) $$ [HO Ht Hp Hr]
  · isplitr; · iapply (recs_get xs ds κ _ hg); iexact HR
    isplitl [HO]; · iexact HO
    isplitl [Ht]; · iexact Ht
    isplitl [Hp] <;> iassumption
  iintro HO
  iapply Hk
  iexists W; iexact HO

/-- The wait for three units on a barrier: it hands over the three payloads; the barrier's counter is back at zero. -/
theorem step_barrier {α : Type} {Q : α → sProp 𝕄}
    {kt : PUnit → Prog (TpuEff nD τ sig (Elt F) Λ₀ .tc) α} (s : Sem sig) (N : ℕ) (hg : ((c : Thread nD τ), SemLoc.reg s) ∈ barCells ∪ scCells)
    (hlev : ∀ i, i < N → slev (.reg s) < slev (pay i).2.1) {z : ℤ} (hz : z = ((3 : ℕ) : ℤ)) :
    iprop(recs xs ds κ ∗ levAts L lv ∗ owing c (owe c N) ∗ cred (tallyAt ((c : Thread nD τ), .reg s) () 3)
        ∗ atPos ER ((c : Thread nD τ), .reg s) 0 ∅ 0)
      ⊢ iprop((owing c (owe c N) ∗ semVal ((c : Thread nD τ), .reg s) 0
            ∗ bigSep ((rd xs ds).duties ((c : Thread nD τ), .reg s) 0 \ ∅) (fun d => (rd xs ds).payload ((c : Thread nD τ), .reg s) 0 d)
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait s z) kt) Q) := by
  subst hz
  unfold owing
  iintro ⟨#HR, #Hlev, ⟨%W, HO⟩, Hc, Hat⟩ Hk
  iapply (Rounds.wp_wait_rest_token 𝒱₀ ER (rd xs ds) (c : Thread nD τ) none (κ := κ ((c : Thread nD τ), .reg s))
      (wpE_semWait_eq 𝒱₀ (c : Thread nD τ) none Set.univ) (Set.mem_univ _) () (O := owe c N) (W := W) (R := 0) (m := 0) (T := ∅)
      (by rw [expect_reg])) $$ [Hc HO Hat]
  · isplitr; · iapply (recs_get xs ds κ _ hg); iexact HR
    isplitl [Hc]; · iexact Hc
    isplitl [HO]; · iexact HO
    isplitr; · iapply (mayWait c (.reg s) N hlev); iexact Hlev
    iexact Hat
  iintro ⟨HO, Hat, -, Hp⟩
  imod (close xs ds κ ((c : Thread nD τ), .reg s) hg) $$ [Hat] with Hv
  · isplitr; · iexact HR
    iexact Hat
  iapply Hk
  isplitl [HO]; · iexists _; iexact HO
  isplitl [Hv] <;> iassumption

/-- The wait for the one copy counted on a DMA semaphore `i`: it hands over the copy's payload `P`; the counter is back at
    zero. -/
theorem step_wait {α : Type} {Q : α → sProp 𝕄}
    {kt : PUnit → Prog (TpuEff nD τ sig (Elt F) Λ₀ .tc) α} (i : DmaSem sig) (M : ℕ) (P : sProp 𝕄) (hg : ((c : Thread nD τ), SemLoc.dma i) ∈ barCells ∪ scCells)
    (hlev : ∀ j, j < 3 → slev (.dma i) < slev (pay j).2.1)
    (hM : (rd xs ds).expect ((c : Thread nD τ), .dma i) 0 = M)
    (hP : bigSep ((rd xs ds).duties ((c : Thread nD τ), .dma i) 0 \ ∅) (fun d => (rd xs ds).payload ((c : Thread nD τ), .dma i) 0 d) = P)
    {w : TpuEff nD τ sig (Elt F) Λ₀ (c : Thread nD τ).2 PUnit}
    (hw : ∀ K : PUnit → sProp 𝕄, wpE (defs₀ (F := F)) 𝒱₀ (c : Thread nD τ) none Set.univ w K
      = waitSpec (c : Thread nD τ) Set.univ (.dma i) M K) :
    iprop(recs xs ds κ ∗ levAts L lv ∗ owing c (owe c 3) ∗ cred (tallyAt ((c : Thread nD τ), .dma i) () M)
        ∗ atPos ER ((c : Thread nD τ), .dma i) 0 ∅ 0)
      ⊢ iprop((owing c (owe c 3) ∗ semVal ((c : Thread nD τ), .dma i) 0 ∗ P
            -∗ wp frame (wpE (defs₀ (F := F)) 𝒱₀ (c : Thread nD τ) none) Set.univ (kt ⟨⟩) Q)
          -∗ wp frame (wpE (defs₀ (F := F)) 𝒱₀ (c : Thread nD τ) none) Set.univ (.op w kt) Q) := by
  unfold owing
  iintro ⟨#HR, #Hlev, ⟨%W, HO⟩, Hc, Hat⟩ Hk
  iapply (Rounds.wp_wait_rest_token 𝒱₀ ER (rd xs ds) (c : Thread nD τ) none (κ := κ ((c : Thread nD τ), .dma i))
      hw (Set.mem_univ _) () (O := owe c 3) (W := W) (R := 0) (m := 0) (T := ∅)
      ((Nat.zero_add _).trans hM.symm)) $$ [Hc HO Hat]
  · isplitr; · iapply (recs_get xs ds κ _ hg); iexact HR
    isplitl [Hc]; · iexact Hc
    isplitl [HO]; · iexact HO
    isplitr; · iapply (mayWait c (.dma i) 3 hlev); iexact Hlev
    iexact Hat
  iintro ⟨HO, Hat, -, Hp⟩
  imod (close xs ds κ ((c : Thread nD τ), .dma i) hg) $$ [Hat] with Hv
  · isplitr; · iexact HR
    iexact Hat
  iapply Hk
  isplitl [HO]; · iexists _; iexact HO
  isplitl [Hv]; · iexact Hv
  iapply (Entails.of_eq hP); iexact Hp

/-- The copy of the device's row of x to peer `k`: it lends the row's share `k`, and pays the peer's receive semaphore with
    the peer's row, now holding the device's block. -/
theorem step_sendX {α : Type} {Q : α → sProp 𝕄}
    {kt : PUnit → Prog (TpuEff nD τ sig (Elt F) Λ₀ .tc) α} (n : Dev nD) (k : Fin 3) (hn : n = peer k c) {s₁ s₂ : DmaSem sig} (hs₁ : s₁ = xsS k) (hs₂ : s₂ = xrS k) (N : ℕ)
    (hdue : due c N = tallyAt (xrCell k (peer k c)) () NX)
    {hsc : (rowX c : Memref sig (Dev.tc n : Thread nD τ).2.kind .vmem S512x256 .f32).view.ref.isScScratch = false}
    {hsrc : (rowX c).view.WordExact} {hdst : (rowX c).view.WordExact}
    {hsem : DmaTarget.Typed .vmem (.dma s₂) (.remote (Dev.tc n : Thread nD τ) (rowX c) (.dma s₁) hsc)} (f : BufX F) :
    iprop(recs xs ds κ ∗ xPts c c (Ring.shares3 fullShare k) (gX xs) ∗ xPts (peer k c) c fullShare f ∗ owing c (owe c (N + 1))
        ∗ dutyTok ER (xsCell k c) 0 0 ∗ reached ER (xsCell k c) 0 ∗ dutyTok ER (xrCell k (peer k c)) 0 0
        ∗ reached ER (xrCell k (peer k c)) 0)
      ⊢ iprop((cred (tallyAt (xsCell k c) () NX) ∗ owing c (owe c N)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (rowX c) (.remote (Dev.tc n : Thread nD τ) (rowX c) (.dma s₁) hsc) (.dma s₂) hsrc hdst hsem) kt) Q) := by
  subst hn hs₁ hs₂
  unfold owing
  iintro ⟨#HR, Hs, Hd, ⟨%W, HO⟩, Ht1, Hr1, Ht2, Hr2⟩ Hk
  iapply (Rounds.wp_send_pointsTo 𝒱₀ ER (rd xs ds) (c : Thread nD τ) none (c' := (peer k c : Thread nD τ)) (src := rowX c) (dst := rowX c)
    (sS := .dma (xsS k)) (sem := .dma (xrS k)) (κ₁ := κ (xsCell k c)) (κ₂ := κ (xrCell k (peer k c)))
    (r₁ := 0) (r₂ := 0) (d₁ := 0) (d₂ := 0) (fd := f) (fs := gX xs) (q := Ring.shares3 fullShare k)
    (by rw [duties_xs]; exact Finset.mem_singleton_self _) (by rw [duties_xr]; exact Finset.mem_singleton_self _)
    () () NX (NX_row c) (amount_xs xs ds c k 0) (amount_xr xs ds (peer k c) k 0) (owe c N) ((owe_succ c N).trans (congrArg _ hdue)) (W := W)
    (Entails.of_eq (payload_xs xs ds c k 0).symm)
    (by rw [payload_xr, peer_opp_peer]; exact Entails.of_eq (landX (peer k c) c f (gX xs)))) $$ [Hs Hd HO Ht1 Hr1 Ht2 Hr2]
  · isplitr; · iapply (recs_get xs ds κ _ (mem_xs k c)); iexact HR
    isplitr; · iapply (recs_get xs ds κ _ (mem_xr k (peer k c))); iexact HR
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists W; iexact HO

/-- The same of the device's row of dest. -/
theorem step_sendD {α : Type} {Q : α → sProp 𝕄}
    {kt : PUnit → Prog (TpuEff nD τ sig (Elt F) Λ₀ .tc) α} (n : Dev nD) (k : Fin 3) (hn : n = peer k c) {s₁ s₂ : DmaSem sig} (hs₁ : s₁ = dsS k) (hs₂ : s₂ = drS k) (N : ℕ)
    (hdue : due c N = tallyAt (drCell k (peer k c)) () ND)
    {hsc : (rowD c : Memref sig (Dev.tc n : Thread nD τ).2.kind .vmem S4x128 .i32).view.ref.isScScratch = false}
    {hsrc : (rowD c).view.WordExact} {hdst : (rowD c).view.WordExact}
    {hsem : DmaTarget.Typed .vmem (.dma s₂) (.remote (Dev.tc n : Thread nD τ) (rowD c) (.dma s₁) hsc)} (f : BufD F) :
    iprop(recs xs ds κ ∗ dPts c c (Ring.shares3 fullShare k) (gD ds) ∗ dPts (peer k c) c fullShare f ∗ owing c (owe c (N + 1))
        ∗ dutyTok ER (dsCell k c) 0 0 ∗ reached ER (dsCell k c) 0 ∗ dutyTok ER (drCell k (peer k c)) 0 0
        ∗ reached ER (drCell k (peer k c)) 0)
      ⊢ iprop((cred (tallyAt (dsCell k c) () ND) ∗ owing c (owe c N)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (rowD c) (.remote (Dev.tc n : Thread nD τ) (rowD c) (.dma s₁) hsc) (.dma s₂) hsrc hdst hsem) kt) Q) := by
  subst hn hs₁ hs₂
  unfold owing
  iintro ⟨#HR, Hs, Hd, ⟨%W, HO⟩, Ht1, Hr1, Ht2, Hr2⟩ Hk
  iapply (Rounds.wp_send_pointsTo 𝒱₀ ER (rd xs ds) (c : Thread nD τ) none (c' := (peer k c : Thread nD τ)) (src := rowD c) (dst := rowD c)
    (sS := .dma (dsS k)) (sem := .dma (drS k)) (κ₁ := κ (dsCell k c)) (κ₂ := κ (drCell k (peer k c)))
    (r₁ := 0) (r₂ := 0) (d₁ := 0) (d₂ := 0) (fd := f) (fs := gD ds) (q := Ring.shares3 fullShare k)
    (by rw [duties_ds]; exact Finset.mem_singleton_self _) (by rw [duties_dr]; exact Finset.mem_singleton_self _)
    () () ND (ND_row c) (amount_ds xs ds c k 0) (amount_dr xs ds (peer k c) k 0) (owe c N) ((owe_succ c N).trans (congrArg _ hdue)) (W := W)
    (Entails.of_eq (payload_ds xs ds c k 0).symm)
    (by rw [payload_dr, peer_opp_peer]; exact Entails.of_eq (landD (peer k c) c f (gD ds)))) $$ [Hs Hd HO Ht1 Hr1 Ht2 Hr2]
  · isplitr; · iapply (recs_get xs ds κ _ (mem_ds k c)); iexact HR
    isplitr; · iapply (recs_get xs ds κ _ (mem_dr k (peer k c))); iexact HR
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists W; iexact HO

/-- The wait for the one copy of a row of x counted on a DMA semaphore: `step_wait` at the body's operation. -/
theorem step_waitX {α : Type} {Q : α → sProp 𝕄} {kt : PUnit → Prog (TpuEff nD τ sig (Elt F) Λ₀ .tc) α} {s : DmaSem sig} (i : DmaSem sig)
    (hs : s = i) (P : sProp 𝕄) (hg : ((c : Thread nD τ), SemLoc.dma i) ∈ barCells ∪ scCells)
    (hlev : ∀ j, j < 3 → slev (.dma i) < slev (pay j).2.1)
    (hM : (rd xs ds).expect ((c : Thread nD τ), .dma i) 0 = NX)
    (hP : bigSep ((rd xs ds).duties ((c : Thread nD τ), .dma i) 0 \ ∅) (fun d => (rd xs ds).payload ((c : Thread nD τ), .dma i) 0 d) = P)
    {h₁ h₂ : (rowX c).view.WordExact} :
    iprop(recs xs ds κ ∗ levAts L lv ∗ owing c (owe c 3) ∗ cred (tallyAt ((c : Thread nD τ), .dma i) () NX)
        ∗ atPos ER ((c : Thread nD τ), .dma i) 0 ∅ 0)
      ⊢ iprop((owing c (owe c 3) ∗ semVal ((c : Thread nD τ), .dma i) 0 ∗ P
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s (rowX c) (rowX c) h₁ h₂) kt) Q) := by
  subst hs
  exact step_wait xs ds κ c s NX P hg hlev hM hP (wpE_waitDma2_eq 𝒱₀ (c : Thread nD τ) none Set.univ)

/-- The same of a row of dest. -/
theorem step_waitD {α : Type} {Q : α → sProp 𝕄} {kt : PUnit → Prog (TpuEff nD τ sig (Elt F) Λ₀ .tc) α} {s : DmaSem sig} (i : DmaSem sig)
    (hs : s = i) (P : sProp 𝕄) (hg : ((c : Thread nD τ), SemLoc.dma i) ∈ barCells ∪ scCells)
    (hlev : ∀ j, j < 3 → slev (.dma i) < slev (pay j).2.1)
    (hM : (rd xs ds).expect ((c : Thread nD τ), .dma i) 0 = ND)
    (hP : bigSep ((rd xs ds).duties ((c : Thread nD τ), .dma i) 0 \ ∅) (fun d => (rd xs ds).payload ((c : Thread nD τ), .dma i) 0 d) = P)
    {h₁ h₂ : (rowD c).view.WordExact} :
    iprop(recs xs ds κ ∗ levAts L lv ∗ owing c (owe c 3) ∗ cred (tallyAt ((c : Thread nD τ), .dma i) () ND)
        ∗ atPos ER ((c : Thread nD τ), .dma i) 0 ∅ 0)
      ⊢ iprop((owing c (owe c 3) ∗ semVal ((c : Thread nD τ), .dma i) 0 ∗ P
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s (rowD c) (rowD c) h₁ h₂) kt) Q) := by
  subst hs
  exact step_wait xs ds κ c s ND P hg hlev hM hP (wpE_waitDma2_eq 𝒱₀ (c : Thread nD τ) none Set.univ)

end Steps

/-! ## The two whole loads -/

/-- Reading a whole buffer through a rectangle over all of it reads its contents. -/
theorem read_x (f : (cc0_stg0_0 : Ref sig .tc).ty.Contents (Elt F)) :
    ((Memref.whole cc0_stg0_0 : Memref sig .tc .vmem S512x256 .f32).access
      (Rect.unit (s := S512x256) ![0, 0] S512x256.size inb_S512x256_S512x256_0_0)).read (Elt F) f = f :=
  funext fun y => congrArg f (funext fun a => Fin.ext (by
    rw [ValueKit.view_emb_slice_whole_unit_val]
    revert a
    exact fun | ⟨0, _⟩ => Nat.zero_add _ | ⟨1, _⟩ => Nat.zero_add _))
theorem read_d (f : (cc0_stg1_0 : Ref sig .tc).ty.Contents (Elt F)) :
    ((Memref.whole cc0_stg1_0 : Memref sig .tc .vmem S4x128 .i32).access
      (Rect.unit (s := S4x128) ![0, 0] S4x128.size inb_S4x128_S4x128_0_0)).read (Elt F) f = f :=
  funext fun y => congrArg f (funext fun a => Fin.ext (by
    rw [ValueKit.view_emb_slice_whole_unit_val]
    revert a
    exact fun | ⟨0, _⟩ => Nat.zero_add _ | ⟨1, _⟩ => Nat.zero_add _))

section Local
variable (c : Dev nD)

/-- The load of the staged block of x. -/
theorem step_load_x {α : Type} {Q : α → sProp 𝕄} (f : (cc0_stg0_0 : Ref sig .tc).ty.Contents (Elt F)) {hl}
    {kt : (S512x256.Idx → Elt F .f32) → Prog (TpuEff nD τ sig (Elt F) Λ₀ .tc) α} :
    ((c : Thread nD τ).loc cc0_stg0_0 ↦{fullShare} f : sProp 𝕄)
      ⊢ iprop((((c : Thread nD τ).loc cc0_stg0_0 ↦{fullShare} f)
            -∗ wp frame (wpE (defs₀ (F := F)) 𝒱₀ (c : Thread nD τ) none) Set.univ (kt f) Q)
          -∗ wp frame (wpE (defs₀ (F := F)) 𝒱₀ (c : Thread nD τ) none) Set.univ
              (.op (.load (Memref.whole cc0_stg0_0 : Memref sig .tc .vmem S512x256 .f32)
                (Rect.unit (s := S512x256) ![0, 0] S512x256.size inb_S512x256_S512x256_0_0).toLoadRect hl) kt) Q) := by
  have h := wp_load_rect (defs := defs₀ (F := F)) 𝒱₀ (c : Thread nD τ) none (Γ := ∅) Set.univ (Q := Q) (m := (Memref.whole cc0_stg0_0 : Memref sig .tc .vmem S512x256 .f32))
    (r := Rect.unit (s := S512x256) ![0, 0] S512x256.size inb_S512x256_S512x256_0_0) (hl := hl) (k := kt) (S := Finset.univ) (q := fullShare) (f := f) (Finset.subset_univ _)
  rwa [read_x] at h

/-- The load of the staged block of dest. -/
theorem step_load_d {α : Type} {Q : α → sProp 𝕄} (f : (cc0_stg1_0 : Ref sig .tc).ty.Contents (Elt F)) {hl}
    {kt : (S4x128.Idx → Elt F .i32) → Prog (TpuEff nD τ sig (Elt F) Λ₀ .tc) α} :
    ((c : Thread nD τ).loc cc0_stg1_0 ↦{fullShare} f : sProp 𝕄)
      ⊢ iprop((((c : Thread nD τ).loc cc0_stg1_0 ↦{fullShare} f)
            -∗ wp frame (wpE (defs₀ (F := F)) 𝒱₀ (c : Thread nD τ) none) Set.univ (kt f) Q)
          -∗ wp frame (wpE (defs₀ (F := F)) 𝒱₀ (c : Thread nD τ) none) Set.univ
              (.op (.load (Memref.whole cc0_stg1_0 : Memref sig .tc .vmem S4x128 .i32)
                (Rect.unit (s := S4x128) ![0, 0] S4x128.size inb_S4x128_S4x128_0_0).toLoadRect hl) kt) Q) := by
  have h := wp_load_rect (defs := defs₀ (F := F)) 𝒱₀ (c : Thread nD τ) none (Γ := ∅) Set.univ (Q := Q) (m := (Memref.whole cc0_stg1_0 : Memref sig .tc .vmem S4x128 .i32))
    (r := Rect.unit (s := S4x128) ![0, 0] S4x128.size inb_S4x128_S4x128_0_0) (hl := hl) (k := kt) (S := Finset.univ) (q := fullShare) (f := f) (Finset.subset_univ _)
  rwa [read_d] at h

/-- The load of row `c` of the gathering buffer of x, whose value the body does not use; -/
theorem step_peek_x {α : Type} {Q : α → sProp 𝕄} (f : BufX F) {hl}
    {kt : (S1x512x256.Idx → Elt F .f32) → Prog (TpuEff nD τ sig (Elt F) Λ₀ .tc) α} :
    (xPts c c fullShare f : sProp 𝕄)
      ⊢ iprop((xPts c c fullShare f
            -∗ wp frame (wpE (defs₀ (F := F)) 𝒱₀ (c : Thread nD τ) none) Set.univ (kt ((accX c).read (Elt F) f)) Q)
          -∗ wp frame (wpE (defs₀ (F := F)) 𝒱₀ (c : Thread nD τ) none) Set.univ
              (.op (.load (Memref.whole cc0_stg2_0 : Memref sig .tc .vmem S4x512x256 .f32)
                (Rect.unit (s := S4x512x256) (k0_off1 c) S1x512x256.size (k0_off1_inb c)).toLoadRect hl) kt) Q) :=
  wp_load_rect (defs := defs₀ (F := F)) 𝒱₀ (c : Thread nD τ) none (Γ := ∅) Set.univ (Q := Q) (m := (Memref.whole cc0_stg2_0 : Memref sig .tc .vmem S4x512x256 .f32))
    (r := Rect.unit (s := S4x512x256) (k0_off1 c) S1x512x256.size (k0_off1_inb c)) (hl := hl) (k := kt) (S := (rowX c).view.set) (q := fullShare) (f := f)
    (accX_set c).subset
/-- and of the gathering buffer of dest. -/
theorem step_peek_d {α : Type} {Q : α → sProp 𝕄} (f : BufD F) {hl}
    {kt : (S1x4x128.Idx → Elt F .i32) → Prog (TpuEff nD τ sig (Elt F) Λ₀ .tc) α} :
    (dPts c c fullShare f : sProp 𝕄)
      ⊢ iprop((dPts c c fullShare f
            -∗ wp frame (wpE (defs₀ (F := F)) 𝒱₀ (c : Thread nD τ) none) Set.univ (kt ((accD c).read (Elt F) f)) Q)
          -∗ wp frame (wpE (defs₀ (F := F)) 𝒱₀ (c : Thread nD τ) none) Set.univ
              (.op (.load (Memref.whole cc0_stg3_0 : Memref sig .tc .vmem S4x4x128 .i32)
                (Rect.unit (s := S4x4x128) (k0_off2 c) S1x4x128.size (k0_off2_inb c)).toLoadRect hl) kt) Q) :=
  wp_load_rect (defs := defs₀ (F := F)) 𝒱₀ (c : Thread nD τ) none (Γ := ∅) Set.univ (Q := Q) (m := (Memref.whole cc0_stg3_0 : Memref sig .tc .vmem S4x4x128 .i32))
    (r := Rect.unit (s := S4x4x128) (k0_off2 c) S1x4x128.size (k0_off2_inb c)) (hl := hl) (k := kt) (S := (rowD c).view.set) (q := fullShare) (f := f)
    (accD_set c).subset

/-- The store of the device's block of x into its own row; -/
theorem step_store_x {α : Type} {Q : α → sProp 𝕄} (f : BufX F) {hx hm} {kt : PUnit → Prog (TpuEff nD τ sig (Elt F) Λ₀ .tc) α} :
    (xPts c c fullShare f : sProp 𝕄)
      ⊢ iprop((xPts c c fullShare (gX xs)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.store (Memref.whole cc0_stg2_0 : Memref sig .tc .vmem S4x512x256 .f32)
                (Rect.unit (s := S4x512x256) (k0_off1 c) S1x512x256.size (k0_off1_inb c)) (k0_pay1 (xs c)) Finset.univ hx hm) kt) Q) := by
  have h := wp_store (defs := defs₀ (F := F)) 𝒱₀ (c : Thread nD τ) none (Γ := ∅) Set.univ (Q := Q) (m := (Memref.whole cc0_stg2_0 : Memref sig .tc .vmem S4x512x256 .f32))
    (r := Rect.unit (s := S4x512x256) (k0_off1 c) S1x512x256.size (k0_off1_inb c)) (w := k0_pay1 (xs c)) (hx := hx) (hm := hm) (k := kt) (S := (rowX c).view.set)
    (f := f) (by rw [View.setOn_univ]; exact (accX_set c).subset)
  rw [← storeX xs c f]
  exact h
/-- and of its block of dest. -/
theorem step_store_d {α : Type} {Q : α → sProp 𝕄} (f : BufD F) {hx hm} {kt : PUnit → Prog (TpuEff nD τ sig (Elt F) Λ₀ .tc) α} :
    (dPts c c fullShare f : sProp 𝕄)
      ⊢ iprop((dPts c c fullShare (gD ds)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.store (Memref.whole cc0_stg3_0 : Memref sig .tc .vmem S4x4x128 .i32)
                (Rect.unit (s := S4x4x128) (k0_off2 c) S1x4x128.size (k0_off2_inb c)) (k0_pay3 (k0_pay2 (F := F) (ds c))) Finset.univ hx hm) kt) Q) := by
  have h := wp_store (defs := defs₀ (F := F)) 𝒱₀ (c : Thread nD τ) none (Γ := ∅) Set.univ (Q := Q) (m := (Memref.whole cc0_stg3_0 : Memref sig .tc .vmem S4x4x128 .i32))
    (r := Rect.unit (s := S4x4x128) (k0_off2 c) S1x4x128.size (k0_off2_inb c)) (w := k0_pay3 (k0_pay2 (ds c))) (hx := hx) (hm := hm) (k := kt) (S := (rowD c).view.set)
    (f := f) (by rw [View.setOn_univ]; exact (accD_set c).subset)
  rw [← storeD ds c f]
  exact h

end Local

/-! ## What the body starts from and what it leaves -/

section Ghost
variable (k : Fin 3) (c : Dev nD)

/-- The rights to make the payments device `c` makes for its peer `k`: the two barrier units, and the two copies' units on
    the peer's receive semaphores and on its own send semaphores. -/
def toks : sProp 𝕄 :=
  iprop(dutyTok ER (barCell (peer k c)) 0 (opp k) ∗ dutyTok ER (secCell (peer k c)) 0 (opp k)
    ∗ dutyTok ER (xsCell k c) 0 0 ∗ dutyTok ER (xrCell k (peer k c)) 0 0
    ∗ dutyTok ER (dsCell k c) 0 0 ∗ dutyTok ER (drCell k (peer k c)) 0 0)
/-- Its four copy semaphores of peer `k`, none waited on yet. -/
def ats : sProp 𝕄 :=
  iprop(atPos ER (xsCell k c) 0 ∅ 0 ∗ atPos ER (xrCell k c) 0 ∅ 0 ∗ atPos ER (dsCell k c) 0 ∅ 0 ∗ atPos ER (drCell k c) 0 ∅ 0)
/-- The same four are in their one round. -/
def marks : sProp 𝕄 :=
  iprop(reached ER (xsCell k c) 0 ∗ reached ER (xrCell k c) 0 ∗ reached ER (dsCell k c) 0 ∗ reached ER (drCell k c) 0)
/-- What the launch owes it on its two receive semaphores. -/
def creds : sProp 𝕄 := iprop(cred (tallyAt (xrCell k c) () NX) ∗ cred (tallyAt (drCell k c) () ND))
/-- The counters of the four at zero. -/
def vals : sProp 𝕄 :=
  iprop(semVal (xsCell k c) 0 ∗ semVal (xrCell k c) 0 ∗ semVal (dsCell k c) 0 ∗ semVal (drCell k c) 0)

instance marks_persistent : BI.Persistent (marks (F := F) k c) := by unfold marks; infer_instance

/-- The barrier unit device `c` pays to its peer `k` hands over row `peer k c` of `c`'s two buffers. -/
theorem barPay_intro : iprop((∃ f, xPts c (peer k c) fullShare f) ∗ (∃ f, dPts c (peer k c) fullShare f)
      ∗ marks (opp k) c ∗ reached ER (secCell c) 0) ⊢ (barPay (peer k c) (opp k) : sProp 𝕄) := by
  unfold barPay marks
  rw [peer_opp_peer]
  iintro ⟨Hx, Hd, ⟨-, Hr1, -, Hr2⟩, Hr3⟩
  isplitl [Hx]; · iexact Hx
  isplitl [Hd]; · iexact Hd
  isplitl [Hr1]; · iexact Hr1
  isplitl [Hr2] <;> iassumption

end Ghost

/-- The ghost state device `c` enters the body with, every semaphore of the exchange being open. -/
def ghost (c : Dev nD) : sProp 𝕄 :=
  iprop((toks 0 c ∗ toks 1 c ∗ toks 2 c) ∗ (ats 0 c ∗ ats 1 c ∗ ats 2 c) ∗ (marks 0 c ∗ marks 1 c ∗ marks 2 c)
    ∗ (creds 0 c ∗ creds 1 c ∗ creds 2 c)
    ∗ (atPos ER (barCell c) 0 ∅ 0 ∗ cred (tallyAt (barCell c) () 3)
      ∗ reached ER (barCell (peer 0 c)) 0 ∗ reached ER (barCell (peer 1 c)) 0 ∗ reached ER (barCell (peer 2 c)) 0)
    ∗ (atPos ER (secCell c) 0 ∅ 0 ∗ cred (tallyAt (secCell c) () 3) ∗ reached ER (secCell c) 0))

/-- The body's start: the ghost state, the two staged blocks, the two gathering buffers at anything, everything owed. -/
def bodyPre (κ : GSem nD τ sig → ℕ) (c : Dev nD) : sProp 𝕄 :=
  iprop(recs xs ds κ ∗ levAts L lv ∗ ghost c
    ∗ ((c : Thread nD τ).loc cc0_stg0_0 ↦{fullShare} (xs c)) ∗ ((c : Thread nD τ).loc cc0_stg1_0 ↦{fullShare} (ds c))
    ∗ (∃ f : BufX F, (c : Thread nD τ).loc cc0_stg2_0 ↦{fullShare} f) ∗ (∃ f : BufD F, (c : Thread nD τ).loc cc0_stg3_0 ↦{fullShare} f)
    ∗ owing c (owe c 12))

/-- The body's end: the blocks as they were, the gathering buffers holding every device's block, every counter at zero,
    nothing owed. -/
def bodyPost (c : Dev nD) : sProp 𝕄 :=
  iprop((vals 0 c ∗ vals 1 c ∗ vals 2 c) ∗ semVal (barCell c) 0 ∗ semVal (secCell c) 0
    ∗ ((c : Thread nD τ).loc cc0_stg0_0 ↦{fullShare} (xs c)) ∗ ((c : Thread nD τ).loc cc0_stg1_0 ↦{fullShare} (ds c))
    ∗ ((c : Thread nD τ).loc cc0_stg2_0 ↦{fullShare} (gX xs)) ∗ ((c : Thread nD τ).loc cc0_stg3_0 ↦{fullShare} (gD ds))
    ∗ owing c 0)

end Cert.KernelIdeal.Talk

end
-- ==== Proof.IdealTalk.lean ====
/-
  The body's run (program `KernelIdeal`): one step per effect, in program order.
-/
module

public import proofs.«01_k».proof.Proof.IdealBody

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (xs : Dev nD → Vec F S512x256 .f32) (ds : Dev nD → Vec F S4x128 .i32)

set_option maxHeartbeats 4000000 in
/-- The body, from `bodyPre` to `bodyPost`. -/
theorem bodyRun (κ : GSem nD τ sig → ℕ) (c : Dev nD) (Kt : PUnit → sProp 𝕄) :
    iprop(bodyPre xs ds κ c ∗ (bodyPost xs ds c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            cc0_scratch0 cc0_scratch1 cc0_scratch2 cc0_scratch3 cc0_scoped0) Kt := by
  rw [cc0_body_eq_skeleton]; unfold cc0_body_skel
  unfold bodyPre ghost toks ats creds
  iintro ⟨⟨#HR, #Hlev, ⟨⟨⟨Htbar0, Htsec0, Htxs0, Htxr0, Htds0, Htdr0⟩, ⟨Htbar1, Htsec1, Htxs1, Htxr1, Htds1, Htdr1⟩, ⟨Htbar2, Htsec2, Htxs2, Htxr2, Htds2, Htdr2⟩⟩, ⟨⟨Haxs0, Haxr0, Hads0, Hadr0⟩, ⟨Haxs1, Haxr1, Hads1, Hadr1⟩, ⟨Haxs2, Haxr2, Hads2, Hadr2⟩⟩, ⟨#HM0, #HM1, #HM2⟩, ⟨⟨Hcxr0, Hcdr0⟩, ⟨Hcxr1, Hcdr1⟩, ⟨Hcxr2, Hcdr2⟩⟩, ⟨HaB, HcB, #HrB0, #HrB1, #HrB2⟩, ⟨HaQ, HcQ, #HrSec⟩⟩, Hx, Hd, ⟨%f, HX⟩, ⟨%g, HD⟩, HO⟩, Hk⟩
  ihave HX := (Entails.of_eq (rowsX c f)) $$ HX
  ihave HD := (Entails.of_eq (rowsD c g)) $$ HD
  icases HX with ⟨HXc, HX0, HX1, HX2⟩
  icases HD with ⟨HDc, HD0, HD1, HD2⟩
  rw [wp_bind]
  -- part 1 of the body
  rw [k0_part1_eq_skeleton]; unfold k0_part1_skel
  simp only [semSignalWord, semWaitWord, Prog.lift, Prog.bind_op, Prog.bind_ret, Prog.pure_eq_ret, wp_deviceId]
  -- the three barrier signals
  iapply (step_signal xs ds κ c barS _ 0 (Fin.ext (k0_dev1_eq c)) (mem_bar (peer 0 c)) 11 rfl (by decide)) $$ [HO Htbar0 HX0 HD0]
  · isplitr; · iexact HR
    isplitl [HO]; · iexact HO
    isplitl [Htbar0]; · iexact Htbar0
    isplitl [HX0 HD0]
    · rw [payload_bar]
      iapply (barPay_intro 0 c)
      isplitl [HX0]; · iexists f; iexact HX0
      isplitl [HD0]; · iexists g; iexact HD0
      isplitr; · iexact HM1
      iexact HrSec
    iexact HrB0
  iintro HO
  iapply (step_signal xs ds κ c barS _ 1 (Fin.ext (k0_dev2_eq c)) (mem_bar (peer 1 c)) 10 rfl (by decide)) $$ [HO Htbar1 HX1 HD1]
  · isplitr; · iexact HR
    isplitl [HO]; · iexact HO
    isplitl [Htbar1]; · iexact Htbar1
    isplitl [HX1 HD1]
    · rw [payload_bar]
      iapply (barPay_intro 1 c)
      isplitl [HX1]; · iexists f; iexact HX1
      isplitl [HD1]; · iexists g; iexact HD1
      isplitr; · iexact HM0
      iexact HrSec
    iexact HrB1
  iintro HO
  iapply (step_signal xs ds κ c barS _ 2 (Fin.ext (k0_dev3_eq c)) (mem_bar (peer 2 c)) 9 rfl (by decide)) $$ [HO Htbar2 HX2 HD2]
  · isplitr; · iexact HR
    isplitl [HO]; · iexact HO
    isplitl [Htbar2]; · iexact Htbar2
    isplitl [HX2 HD2]
    · rw [payload_bar]
      iapply (barPay_intro 2 c)
      isplitl [HX2]; · iexists f; iexact HX2
      isplitl [HD2]; · iexists g; iexact HD2
      isplitr; · iexact HM2
      iexact HrSec
    iexact HrB2
  iintro HO
  -- the barrier's wait: the rows this device fills come with it
  iapply (step_barrier xs ds κ c barS 9 (mem_bar c) lev_bar (by decide)) $$ [HO HcB HaB]
  · isplitr; · iexact HR
    isplitr; · iexact Hlev
    isplitl [HO]; · iexact HO
    isplitl [HcB] <;> iassumption
  iintro ⟨HO, HvB, Hp⟩
  ihave Hp := (Entails.of_eq (rest_bar xs ds c)) $$ Hp
  unfold barPay
  icases Hp with ⟨⟨⟨%fX0, HPX0⟩, ⟨%fD0, HPD0⟩, #HrPx0, #HrPd0, #HrQ0⟩, ⟨⟨%fX1, HPX1⟩, ⟨%fD1, HPD1⟩, #HrPx1, #HrPd1, #HrQ1⟩, ⟨⟨%fX2, HPX2⟩, ⟨%fD2, HPD2⟩, #HrPx2, #HrPd2, #HrQ2⟩⟩
  -- the device's own rows
  iapply (step_load_x c (xs c)) $$ Hx
  iintro Hx
  iapply (step_peek_x c f) $$ HXc
  iintro HXc
  iapply (step_store_x xs c f) $$ HXc
  iintro HXc
  iapply (step_load_d c (ds c)) $$ Hd
  iintro Hd
  iapply (step_peek_d c g) $$ HDc
  iintro HDc
  rw [wp_ret]; imodintro
  rw [wp_bind]
  dsimp only
  -- part 2 of the body
  rw [k0_part2_eq_skeleton]; unfold k0_part2_skel
  simp only [semSignalWord, semWaitWord, Prog.lift, Prog.bind_op, Prog.bind_ret, Prog.pure_eq_ret, wp_deviceId]
  iapply (step_store_d ds c g) $$ HDc
  iintro HDc
  unfold marks
  icases HM0 with ⟨#HMxs0, -, #HMds0, -⟩
  icases HM1 with ⟨#HMxs1, -, #HMds1, -⟩
  icases HM2 with ⟨#HMxs2, -, #HMds2, -⟩
  ihave HT := (Ring.pointsTo_thirds fullShare (gX xs)).1 $$ HXc
  icases HT with ⟨Hx0, Hx1, Hx2⟩
  ihave HT := (Ring.pointsTo_thirds fullShare (gD ds)).1 $$ HDc
  icases HT with ⟨Hd0, Hd1, Hd2⟩
  -- the copy of the row of x to peer 0
  iapply (step_sendX xs ds κ c _ 0 (Fin.ext (k0_dev4_eq c)) rfl rfl 8 rfl fX0) $$ [Hx0 HPX0 HO Htxs0 Htxr0]
  · isplitr; · iexact HR
    isplitl [Hx0]; · iexact Hx0
    isplitl [HPX0]; · iexact HPX0
    isplitl [HO]; · iexact HO
    isplitl [Htxs0]; · iexact Htxs0
    isplitr; · iexact HMxs0
    isplitl [Htxr0]; · iexact Htxr0
    iexact HrPx0
  iintro ⟨Hcxs0, HO⟩
  -- the copy of the row of dest to peer 0
  iapply (step_sendD xs ds κ c _ 0 (Fin.ext (k0_dev5_eq c)) rfl rfl 7 rfl fD0) $$ [Hd0 HPD0 HO Htds0 Htdr0]
  · isplitr; · iexact HR
    isplitl [Hd0]; · iexact Hd0
    isplitl [HPD0]; · iexact HPD0
    isplitl [HO]; · iexact HO
    isplitl [Htds0]; · iexact Htds0
    isplitr; · iexact HMds0
    isplitl [Htdr0]; · iexact Htdr0
    iexact HrPd0
  iintro ⟨Hcds0, HO⟩
  -- the copy of the row of x to peer 1
  iapply (step_sendX xs ds κ c _ 1 (Fin.ext (k0_dev6_eq c)) rfl rfl 6 rfl fX1) $$ [Hx1 HPX1 HO Htxs1 Htxr1]
  · isplitr; · iexact HR
    isplitl [Hx1]; · iexact Hx1
    isplitl [HPX1]; · iexact HPX1
    isplitl [HO]; · iexact HO
    isplitl [Htxs1]; · iexact Htxs1
    isplitr; · iexact HMxs1
    isplitl [Htxr1]; · iexact Htxr1
    iexact HrPx1
  iintro ⟨Hcxs1, HO⟩
  rw [wp_ret]; imodintro
  rw [wp_bind]
  -- part 3 of the body
  rw [k0_part3_eq_skeleton]; unfold k0_part3_skel
  simp only [semSignalWord, semWaitWord, Prog.lift, Prog.bind_op, Prog.bind_ret, Prog.pure_eq_ret, wp_deviceId]
  -- the copy of the row of dest to peer 1
  iapply (step_sendD xs ds κ c _ 1 (Fin.ext (k0_dev7_eq c)) rfl rfl 5 rfl fD1) $$ [Hd1 HPD1 HO Htds1 Htdr1]
  · isplitr; · iexact HR
    isplitl [Hd1]; · iexact Hd1
    isplitl [HPD1]; · iexact HPD1
    isplitl [HO]; · iexact HO
    isplitl [Htds1]; · iexact Htds1
    isplitr; · iexact HMds1
    isplitl [Htdr1]; · iexact Htdr1
    iexact HrPd1
  iintro ⟨Hcds1, HO⟩
  -- the copy of the row of x to peer 2
  iapply (step_sendX xs ds κ c _ 2 (Fin.ext (k0_dev8_eq c)) rfl rfl 4 rfl fX2) $$ [Hx2 HPX2 HO Htxs2 Htxr2]
  · isplitr; · iexact HR
    isplitl [Hx2]; · iexact Hx2
    isplitl [HPX2]; · iexact HPX2
    isplitl [HO]; · iexact HO
    isplitl [Htxs2]; · iexact Htxs2
    isplitr; · iexact HMxs2
    isplitl [Htxr2]; · iexact Htxr2
    iexact HrPx2
  iintro ⟨Hcxs2, HO⟩
  -- the copy of the row of dest to peer 2
  iapply (step_sendD xs ds κ c _ 2 (Fin.ext (k0_dev9_eq c)) rfl rfl 3 rfl fD2) $$ [Hd2 HPD2 HO Htds2 Htdr2]
  · isplitr; · iexact HR
    isplitl [Hd2]; · iexact Hd2
    isplitl [HPD2]; · iexact HPD2
    isplitl [HO]; · iexact HO
    isplitl [Htds2]; · iexact Htds2
    isplitr; · iexact HMds2
    isplitl [Htdr2]; · iexact Htdr2
    iexact HrPd2
  iintro ⟨Hcds2, HO⟩
  rw [wp_ret]; imodintro
  rw [wp_bind]
  -- part 4 of the body
  rw [k0_part4_eq_skeleton]; unfold k0_part4_skel
  simp only [semSignalWord, semWaitWord, Prog.lift, Prog.bind_op, Prog.bind_ret, Prog.pure_eq_ret, wp_deviceId]
  iapply (step_waitX xs ds κ c (xsS 0) rfl (xPts c c (Ring.shares3 fullShare 0) (gX xs)) (mem_xs 0 c) (lev_xs 0) (expect_xs xs ds c 0) (rest_xs xs ds c 0)) $$ [HO Hcxs0 Haxs0]
  · isplitr; · iexact HR
    isplitr; · iexact Hlev
    isplitl [HO]; · iexact HO
    isplitl [Hcxs0] <;> iassumption
  iintro ⟨HO, Hvxs0, Hx0⟩
  iapply (step_waitX xs ds κ c (xrS 0) rfl (xPts c (peer (opp 0) c) fullShare (gX xs)) (mem_xr 0 c) (lev_xr 0) (expect_xr xs ds c 0) (rest_xr xs ds c 0)) $$ [HO Hcxr0 Haxr0]
  · isplitr; · iexact HR
    isplitr; · iexact Hlev
    isplitl [HO]; · iexact HO
    isplitl [Hcxr0] <;> iassumption
  iintro ⟨HO, Hvxr0, HLx0⟩
  iapply (step_waitD xs ds κ c (dsS 0) rfl (dPts c c (Ring.shares3 fullShare 0) (gD ds)) (mem_ds 0 c) (lev_ds 0) (expect_ds xs ds c 0) (rest_ds xs ds c 0)) $$ [HO Hcds0 Hads0]
  · isplitr; · iexact HR
    isplitr; · iexact Hlev
    isplitl [HO]; · iexact HO
    isplitl [Hcds0] <;> iassumption
  iintro ⟨HO, Hvds0, Hd0⟩
  iapply (step_waitD xs ds κ c (drS 0) rfl (dPts c (peer (opp 0) c) fullShare (gD ds)) (mem_dr 0 c) (lev_dr 0) (expect_dr xs ds c 0) (rest_dr xs ds c 0)) $$ [HO Hcdr0 Hadr0]
  · isplitr; · iexact HR
    isplitr; · iexact Hlev
    isplitl [HO]; · iexact HO
    isplitl [Hcdr0] <;> iassumption
  iintro ⟨HO, Hvdr0, HLd0⟩
  rw [wp_ret]; imodintro
  rw [wp_bind]
  -- part 5 of the body
  rw [k0_part5_eq_skeleton]; unfold k0_part5_skel
  simp only [semSignalWord, semWaitWord, Prog.lift, Prog.bind_op, Prog.bind_ret, Prog.pure_eq_ret, wp_deviceId]
  iapply (step_waitX xs ds κ c (xsS 1) rfl (xPts c c (Ring.shares3 fullShare 1) (gX xs)) (mem_xs 1 c) (lev_xs 1) (expect_xs xs ds c 1) (rest_xs xs ds c 1)) $$ [HO Hcxs1 Haxs1]
  · isplitr; · iexact HR
    isplitr; · iexact Hlev
    isplitl [HO]; · iexact HO
    isplitl [Hcxs1] <;> iassumption
  iintro ⟨HO, Hvxs1, Hx1⟩
  iapply (step_waitX xs ds κ c (xrS 1) rfl (xPts c (peer (opp 1) c) fullShare (gX xs)) (mem_xr 1 c) (lev_xr 1) (expect_xr xs ds c 1) (rest_xr xs ds c 1)) $$ [HO Hcxr1 Haxr1]
  · isplitr; · iexact HR
    isplitr; · iexact Hlev
    isplitl [HO]; · iexact HO
    isplitl [Hcxr1] <;> iassumption
  iintro ⟨HO, Hvxr1, HLx1⟩
  iapply (step_waitD xs ds κ c (dsS 1) rfl (dPts c c (Ring.shares3 fullShare 1) (gD ds)) (mem_ds 1 c) (lev_ds 1) (expect_ds xs ds c 1) (rest_ds xs ds c 1)) $$ [HO Hcds1 Hads1]
  · isplitr; · iexact HR
    isplitr; · iexact Hlev
    isplitl [HO]; · iexact HO
    isplitl [Hcds1] <;> iassumption
  iintro ⟨HO, Hvds1, Hd1⟩
  iapply (step_waitD xs ds κ c (drS 1) rfl (dPts c (peer (opp 1) c) fullShare (gD ds)) (mem_dr 1 c) (lev_dr 1) (expect_dr xs ds c 1) (rest_dr xs ds c 1)) $$ [HO Hcdr1 Hadr1]
  · isplitr; · iexact HR
    isplitr; · iexact Hlev
    isplitl [HO]; · iexact HO
    isplitl [Hcdr1] <;> iassumption
  iintro ⟨HO, Hvdr1, HLd1⟩
  rw [wp_ret]; imodintro
  rw [wp_bind]
  -- part 6 of the body
  rw [k0_part6_eq_skeleton]; unfold k0_part6_skel
  simp only [semSignalWord, semWaitWord, Prog.lift, Prog.bind_op, Prog.bind_ret, Prog.pure_eq_ret, wp_deviceId]
  iapply (step_waitX xs ds κ c (xsS 2) rfl (xPts c c (Ring.shares3 fullShare 2) (gX xs)) (mem_xs 2 c) (lev_xs 2) (expect_xs xs ds c 2) (rest_xs xs ds c 2)) $$ [HO Hcxs2 Haxs2]
  · isplitr; · iexact HR
    isplitr; · iexact Hlev
    isplitl [HO]; · iexact HO
    isplitl [Hcxs2] <;> iassumption
  iintro ⟨HO, Hvxs2, Hx2⟩
  iapply (step_waitX xs ds κ c (xrS 2) rfl (xPts c (peer (opp 2) c) fullShare (gX xs)) (mem_xr 2 c) (lev_xr 2) (expect_xr xs ds c 2) (rest_xr xs ds c 2)) $$ [HO Hcxr2 Haxr2]
  · isplitr; · iexact HR
    isplitr; · iexact Hlev
    isplitl [HO]; · iexact HO
    isplitl [Hcxr2] <;> iassumption
  iintro ⟨HO, Hvxr2, HLx2⟩
  iapply (step_waitD xs ds κ c (dsS 2) rfl (dPts c c (Ring.shares3 fullShare 2) (gD ds)) (mem_ds 2 c) (lev_ds 2) (expect_ds xs ds c 2) (rest_ds xs ds c 2)) $$ [HO Hcds2 Hads2]
  · isplitr; · iexact HR
    isplitr; · iexact Hlev
    isplitl [HO]; · iexact HO
    isplitl [Hcds2] <;> iassumption
  iintro ⟨HO, Hvds2, Hd2⟩
  rw [wp_ret]; imodintro
  iapply (step_waitD xs ds κ c (drS 2) rfl (dPts c (peer (opp 2) c) fullShare (gD ds)) (mem_dr 2 c) (lev_dr 2) (expect_dr xs ds c 2) (rest_dr xs ds c 2)) $$ [HO Hcdr2 Hadr2]
  · isplitr; · iexact HR
    isplitr; · iexact Hlev
    isplitl [HO]; · iexact HO
    isplitl [Hcdr2] <;> iassumption
  iintro ⟨HO, Hvdr2, HLd2⟩
  -- the second barrier
  iapply (step_signal xs ds κ c secS _ 0 (Fin.ext (k0_dev10_eq c)) (mem_sec (peer 0 c)) 2 rfl (by decide)) $$ [HO Htsec0]
  · isplitr; · iexact HR
    isplitl [HO]; · iexact HO
    isplitl [Htsec0]; · iexact Htsec0
    isplitr
    · rw [payload_sec]; iempintro
    iexact HrQ0
  iintro HO
  iapply (step_signal xs ds κ c secS _ 1 (Fin.ext (k0_dev11_eq c)) (mem_sec (peer 1 c)) 1 rfl (by decide)) $$ [HO Htsec1]
  · isplitr; · iexact HR
    isplitl [HO]; · iexact HO
    isplitl [Htsec1]; · iexact Htsec1
    isplitr
    · rw [payload_sec]; iempintro
    iexact HrQ1
  iintro HO
  iapply (step_signal xs ds κ c secS _ 2 (Fin.ext (k0_dev12_eq c)) (mem_sec (peer 2 c)) 0 rfl (by decide)) $$ [HO Htsec2]
  · isplitr; · iexact HR
    isplitl [HO]; · iexact HO
    isplitl [Htsec2]; · iexact Htsec2
    isplitr
    · rw [payload_sec]; iempintro
    iexact HrQ2
  iintro HO
  iapply (step_barrier xs ds κ c secS 0 (mem_sec c) (fun i hi => absurd hi (Nat.not_lt_zero i)) (by decide)) $$ [HO HcQ HaQ]
  · isplitr; · iexact HR
    isplitr; · iexact Hlev
    isplitl [HO]; · iexact HO
    isplitl [HcQ] <;> iassumption
  iintro ⟨HO, HvQ, -⟩
  rw [wp_ret]; imodintro
  iapply Hk
  unfold bodyPost vals
  isplitl [Hvxs0 Hvxr0 Hvds0 Hvdr0 Hvxs1 Hvxr1 Hvds1 Hvdr1 Hvxs2 Hvxr2 Hvds2 Hvdr2]
  · isplitl [Hvxs0 Hvxr0 Hvds0 Hvdr0]
    · isplitl [Hvxs0]; · iexact Hvxs0
      isplitl [Hvxr0]; · iexact Hvxr0
      isplitl [Hvds0] <;> iassumption
    isplitl [Hvxs1 Hvxr1 Hvds1 Hvdr1]
    · isplitl [Hvxs1]; · iexact Hvxs1
      isplitl [Hvxr1]; · iexact Hvxr1
      isplitl [Hvds1] <;> iassumption
    isplitl [Hvxs2]; · iexact Hvxs2
    isplitl [Hvxr2]; · iexact Hvxr2
    isplitl [Hvds2] <;> iassumption
  isplitl [HvB]; · iexact HvB
  isplitl [HvQ]; · iexact HvQ
  isplitl [Hx]; · iexact Hx
  isplitl [Hd]; · iexact Hd
  isplitl [Hx0 Hx1 Hx2 HLx0 HLx1 HLx2]
  · rw [rowsX]
    isplitl [Hx0 Hx1 Hx2]
    · iapply (Ring.pointsTo_thirds fullShare (gX xs)).2
      isplitl [Hx0]; · iexact Hx0
      isplitl [Hx1] <;> iassumption
    isplitl [HLx1]; · iexact HLx1
    isplitl [HLx0]; · iexact HLx0
    iexact HLx2
  isplitl [Hd0 Hd1 Hd2 HLd0 HLd1 HLd2]
  · rw [rowsD]
    isplitl [Hd0 Hd1 Hd2]
    · iapply (Ring.pointsTo_thirds fullShare (gD ds)).2
      isplitl [Hd0]; · iexact Hd0
      isplitl [Hd1] <;> iassumption
    isplitl [HLd1]; · iexact HLd1
    isplitl [HLd0]; · iexact HLd0
    iexact HLd2
  iexact HO

end Cert.KernelIdeal.Talk

end
-- ==== Proof.IdealRegion.lean ====
/-
  The gathering call as one item of @main (program `KernelIdeal`): what the pipeline stages for it, its proof data, its body
  obligation from the body's run, and its record: entered with the launch's ghost state, everything owed; left with the two
  gathered arrays, every counter at zero, nothing owed.
-/
module

public import proofs.«01_k».proof.Proof.IdealTalk

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The buffers around the call -/

/-- Device `c`'s blocks of x and of dest, as the call finds them. -/
def xIn (c : Dev nD) : Vec F S512x256 .f32 := V1 m c main_arg0
def dIn (c : Dev nD) : Vec F S4x128 .i32 := V1 m c main_v1

/-- Device `c`'s buffers after the call: as before it, but for its two results, which hold every device's block. -/
def VR (c : Dev nD) : Valuation τ sig (Elt F) :=
  Function.update (Function.update (V1 m c) main_v2_0 (gX (xIn m))) main_v2_1 (gD (dIn m))
/-- The same as the contents the call leaves. -/
def outs : Outs (F := F) := fun _ r c => VR m c r

theorem VR_0 (c : Dev nD) : VR m c main_v2_0 = gX (xIn m) :=
  (Function.update_of_ne (StableHlo.devRef_ne_of_ne (by decide)) _ _).trans (Function.update_self _ _ _)
theorem VR_1 (c : Dev nD) : VR m c main_v2_1 = gD (dIn m) := Function.update_self _ _ _
theorem VR_of (c : Dev nD) (b : DevRef τ sig) (h0 : b ≠ Proc.devRef .tc main_v2_0) (h1 : b ≠ Proc.devRef .tc main_v2_1) :
    VR m c b = V1 m c b :=
  (Function.update_of_ne h1 _ _).trans (Function.update_of_ne h0 _ _)
theorem V2_outs (c : Dev nD) : V2 m (outs m) c = VR m c := by
  show Function.update (Function.update (V1 m c) main_v2_0 (VR m c main_v2_0)) main_v2_1 (VR m c main_v2_1) = VR m c
  rw [VR_0, VR_1]; rfl

/-! ## The ghost state of the call, and the opening of its semaphores -/

/-- What the launch keeps for device `c`'s call: the ghost state of the body with the call's own cells not yet open. -/
def kept (c : Dev nD) : sProp 𝕄 :=
  iprop((toks 0 c ∗ toks 1 c ∗ toks 2 c) ∗ (creds 0 c ∗ creds 1 c ∗ creds 2 c)
    ∗ (atPos ER (barCell c) 0 ∅ 0 ∗ cred (tallyAt (barCell c) () 3)
      ∗ reached ER (barCell (peer 0 c)) 0 ∗ reached ER (barCell (peer 1 c)) 0 ∗ reached ER (barCell (peer 2 c)) 0)
    ∗ cred (tallyAt (secCell c) () 3)
    ∗ bigSep Finset.univ fun j : Fin 13 => openTok ER ((c : Thread nD τ), osem j))

/-- Thirteen conjuncts one by one: the second barrier, then for the send and the receive semaphores of x, then of dest, the
    three peers'. -/
theorem bigSep_osem (Φ : SemLoc sig → sProp 𝕄) :
    (bigSep Finset.univ fun j : Fin 13 => Φ (osem j))
      = iprop(Φ (.reg secS) ∗ Φ (.dma (xsS 0)) ∗ Φ (.dma (xsS 1)) ∗ Φ (.dma (xsS 2)) ∗ Φ (.dma (xrS 0)) ∗ Φ (.dma (xrS 1)) ∗ Φ (.dma (xrS 2))
        ∗ Φ (.dma (dsS 0)) ∗ Φ (.dma (dsS 1)) ∗ Φ (.dma (dsS 2)) ∗ Φ (.dma (drS 0)) ∗ Φ (.dma (drS 1)) ∗ Φ (.dma (drS 2))) :=
  bigSep_univ_eq_bigSepL [0, 1, 2, 3, 4, 5, 6, 7, 8, 9, 10, 11, 12] (by decide) (by decide) fun j => Φ (osem j)

variable (xs : Dev nD → Vec F S512x256 .f32) (ds : Dev nD → Vec F S4x128 .i32)

/-- Two families conjoined member by member. -/
theorem bigSep_join {I : Type} [Fintype I] (Φ Ψ : I → sProp 𝕄) :
    iprop(bigSep Finset.univ Φ ∗ bigSep Finset.univ Ψ) ⊢ bigSep Finset.univ fun i => iprop(Φ i ∗ Ψ i) :=
  Entails.of_eq (bigSep_sep _ _ _).symm

/-- A device's own cells opened, all thirteen by one argument. -/
theorem open_cells (κ : GSem nD τ sig → ℕ) (c : Dev nD) :
    iprop(recs xs ds κ ∗ (bigSep Finset.univ fun j : Fin 13 => openTok ER ((c : Thread nD τ), osem j)) ∗ Pipeline.ownSems0 osem c)
      ⊢ (iprop(|={Set.univ}=> bigSep Finset.univ fun j : Fin 13 =>
          iprop(atPos ER ((c : Thread nD τ), osem j) 0 ∅ 0 ∗ reached ER ((c : Thread nD τ), osem j) 0)) : sProp 𝕄) := by
  unfold Pipeline.ownSems0
  iintro ⟨#HR, Ho, Hv⟩
  iapply (bigSep_fupd Finset.univ _)
  iapply (bigSep_with_persistent (R := recs xs ds κ)
    (Φ := fun j : Fin 13 => iprop(openTok ER ((c : Thread nD τ), osem j) ∗ semVal ((c : Thread nD τ), osem j) 0)) fun j _ =>
      (sep_mono_left (recs_get xs ds κ _ (mem_osem c j))).trans (Rounds.cell_open ER (rd xs ds) (Set.mem_univ _)))
  isplitr; · iexact HR
  iapply (bigSep_join _ _)
  isplitl [Ho] <;> iassumption

/-- The ghost state the body starts from, of what the launch kept and the call's counters. -/
theorem kept_open (κ : GSem nD τ sig → ℕ) (c : Dev nD) :
    iprop(recs xs ds κ ∗ kept c ∗ Pipeline.ownSems0 osem c) ⊢ (iprop(|={Set.univ}=> ghost c) : sProp 𝕄) := by
  unfold kept
  iintro ⟨#HR, ⟨Ht, Hc, HB, Hq, Ho⟩, Hv⟩
  imod (open_cells xs ds κ c) $$ [Ho Hv] with H
  · isplitr; · iexact HR
    isplitl [Ho] <;> iassumption
  imodintro
  ihave H := (Entails.of_eq (bigSep_osem (F := F) fun sm => iprop(atPos ER ((c : Thread nD τ), sm) 0 ∅ 0 ∗ reached ER ((c : Thread nD τ), sm) 0))) $$ H
  icases H with ⟨⟨Haq, Hrq⟩, ⟨Ha0, Hr0⟩, ⟨Ha1, Hr1⟩, ⟨Ha2, Hr2⟩, ⟨Hb0, Hs0⟩, ⟨Hb1, Hs1⟩, ⟨Hb2, Hs2⟩,
    ⟨Hc0, Ht0⟩, ⟨Hc1, Ht1⟩, ⟨Hc2, Ht2⟩, ⟨Hd0, Hu0⟩, ⟨Hd1, Hu1⟩, ⟨Hd2, Hu2⟩⟩
  unfold ghost ats marks
  isplitl [Ht]; · iexact Ht
  isplitl [Ha0 Hb0 Hc0 Hd0 Ha1 Hb1 Hc1 Hd1 Ha2 Hb2 Hc2 Hd2]
  · isplitl [Ha0 Hb0 Hc0 Hd0]
    · isplitl [Ha0]; · iexact Ha0
      isplitl [Hb0]; · iexact Hb0
      isplitl [Hc0] <;> iassumption
    isplitl [Ha1 Hb1 Hc1 Hd1]
    · isplitl [Ha1]; · iexact Ha1
      isplitl [Hb1]; · iexact Hb1
      isplitl [Hc1] <;> iassumption
    isplitl [Ha2]; · iexact Ha2
    isplitl [Hb2]; · iexact Hb2
    isplitl [Hc2] <;> iassumption
  isplitl [Hr0 Hs0 Ht0 Hu0 Hr1 Hs1 Ht1 Hu1 Hr2 Hs2 Ht2 Hu2]
  · isplitl [Hr0 Hs0 Ht0 Hu0]
    · isplitl [Hr0]; · iexact Hr0
      isplitl [Hs0]; · iexact Hs0
      isplitl [Ht0] <;> iassumption
    isplitl [Hr1 Hs1 Ht1 Hu1]
    · isplitl [Hr1]; · iexact Hr1
      isplitl [Hs1]; · iexact Hs1
      isplitl [Ht1] <;> iassumption
    isplitl [Hr2]; · iexact Hr2
    isplitl [Hs2]; · iexact Hs2
    isplitl [Ht2] <;> iassumption
  isplitl [Hc]; · iexact Hc
  isplitl [HB]; · iexact HB
  isplitl [Haq]; · iexact Haq
  isplitl [Hq] <;> iassumption

/-- The counters of the call at zero, as the pipeline takes them back. -/
theorem vals_close (c : Dev nD) :
    iprop((vals 0 c ∗ vals 1 c ∗ vals 2 c) ∗ semVal (secCell c) 0) ⊢ (Pipeline.ownSems0 osem c : sProp 𝕄) := by
  unfold Pipeline.ownSems0
  rw [bigSep_osem (F := F) fun sm => semVal ((c : Thread nD τ), sm) 0]
  unfold vals
  iintro ⟨⟨⟨Ha0, Hb0, Hc0, Hd0⟩, ⟨Ha1, Hb1, Hc1, Hd1⟩, ⟨Ha2, Hb2, Hc2, Hd2⟩⟩, Hq⟩
  isplitl [Hq]; · iexact Hq
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [Hc0]; · iexact Hc0
  isplitl [Hc1]; · iexact Hc1
  isplitl [Hc2]; · iexact Hc2
  isplitl [Hd0]; · iexact Hd0
  isplitl [Hd1] <;> iassumption

/-! ## The proof data -/

/-- What the invariant holds before the call's one point, and after it. -/
def enter (c : Dev nD) : sProp 𝕄 := iprop((∃ κ, recs (xIn m) (dIn m) κ) ∗ ghost c ∗ levAts L lv)
def leave (c : Dev nD) : sProp 𝕄 := iprop((vals 0 c ∗ vals 1 c ∗ vals 2 c) ∗ semVal (secCell c) 0 ∗ semVal (barCell c) 0)

/-- The call's proof data: its two inputs stay in place, its two outputs are left at the gathered blocks; everything is owed
    before its point, nothing after. -/
def dat0 (c : Dev nD) : Dat τ (Elt F) Unit ℕ UU ℕ cfg0 c where
  A w := V1 m c (Proc.devRef .tc (Pipeline.arrRef spec0 w))
  after w _ := match w with
    | 0 => xIn m c
    | 1 => dIn m c
    | 2 => gX (xIn m)
    | 3 => gD (dIn m)
    | ⟨_ + 4, h⟩ => absurd h (Nat.not_lt.2 (Nat.le_add_left _ _))
  Φ t := if t.val = 0 then iprop(enter m c ∗ ∃ r, prngReg c r) else iprop(leave c ∗ ∃ r, prngReg c r)
  q _ := fullShare
  owed t := if t.val = 0 then owe c 12 else 0

def pdats : (p : Fin 1) → (c : Dev nD) → Dat τ (Elt F) Unit ℕ UU ℕ (Pipeline.pin (pcfgs (F := F)) adm p) c
  | 0 => dat0 m
  | ⟨_ + 1, h⟩ => absurd h (Nat.not_lt.2 (Nat.le_add_left _ _))

theorem Φ_first (c : Dev nD) : (dat0 (F := F) m c).Φ t0_0.castSucc = iprop(enter m c ∗ ∃ r, prngReg c r) := rfl
theorem Φ_last (c : Dev nD) : (dat0 (F := F) m c).Φ t0_0.succ = iprop(leave c ∗ ∃ r, prngReg c r) := rfl
theorem owed_first (c : Dev nD) : (dat0 (F := F) m c).owed t0_0.castSucc = owe c 12 := rfl
theorem owed_last (c : Dev nD) : (dat0 (F := F) m c).owed t0_0.succ = 0 := rfl

/-! ## The four whole-array windows -/

/-- A buffer read through the block its whole-array window moves is the buffer. -/
theorem read_slice_whole (b : Ref sig .tc) (off : Fin b.ty.shape.rank → ℕ) (inb) (h0 : ∀ a, off a = 0) (G : b.ty.Contents (Elt F)) :
    (((View.whole b).slice (Rect.unit off b.ty.shape.size inb)).read (Elt F) G : b.ty.shape.Idx → Elt F b.ty.elt) = G :=
  funext fun x => congrArg G (funext fun a => Fin.ext (by
    rw [ValueKit.view_emb_slice_whole_unit_val, h0 a]; exact Nat.zero_add _))

/-- Every element of a buffer is in that block. -/
theorem mem_slice_whole (b : Ref sig .tc) (off : Fin b.ty.shape.rank → ℕ) (inb) (h0 : ∀ a, off a = 0) (i : b.ty.shape.Idx) :
    i ∈ ((View.whole b).slice (Rect.unit off b.ty.shape.size inb)).set := by
  rw [View.set_slice_whole, Rect.mem_set_unit]
  exact fun a => ⟨by rw [h0 a]; exact Nat.zero_le _, by rw [h0 a, Nat.zero_add]; exact (i a).isLt⟩

variable (c : Dev nD)

theorem read_0 (G : Vec F S512x256 .f32) : ((cfg0.win 0).blk t0_0).view.read (Elt F) G = G :=
  read_slice_whole main_arg0 _ _ (fun _ => Nat.zero_mul _) G
theorem read_1 (G : Vec F S4x128 .i32) : ((cfg0.win 1).blk t0_0).view.read (Elt F) G = G :=
  read_slice_whole main_v1 _ _ (fun _ => Nat.zero_mul _) G
theorem read_2 (G : BufX F) : ((cfg0.win 2).blk t0_0).view.read (Elt F) G = G :=
  read_slice_whole main_v2_0 _ _ (fun _ => Nat.zero_mul _) G
theorem read_3 (G : BufD F) : ((cfg0.win 3).blk t0_0).view.read (Elt F) G = G :=
  read_slice_whole main_v2_1 _ _ (fun _ => Nat.zero_mul _) G

/-- The body finds the device's blocks in the two input windows, -/
theorem before_0 (d) : (dat0 (F := F) m c).before 0 t0_0 d = xIn m c :=
  ((dat0 (F := F) m c).before_fetched 0 t0_0 (fetch0_0 t0_0) d).trans (read_0 (V1 m c main_arg0))
theorem before_1 (d) : (dat0 (F := F) m c).before 1 t0_0 d = dIn m c :=
  ((dat0 (F := F) m c).before_fetched 1 t0_0 (fetch0_1 t0_0) d).trans (read_1 (V1 m c main_v1))

/-- and the arrays end as the body leaves the windows. -/
theorem arr_2 : (dat0 (F := F) m c).arrAt 2 cfg0.N = gX (xIn m) :=
  (dat0 (F := F) m c).arrAt_eq_of_cover 2 (gX (xIn m))
    (fun t _ => by rw [fin_N0 t]; exact (read_2 (gX (xIn m))).symm)
    (fun i => ⟨t0_0, flush0_2 t0_0, (mem_slice_whole main_v2_0 _ _ (fun _ => Nat.zero_mul _) i)⟩)
theorem arr_3 : (dat0 (F := F) m c).arrAt 3 cfg0.N = gD (dIn m) :=
  (dat0 (F := F) m c).arrAt_eq_of_cover 3 (gD (dIn m))
    (fun t _ => by rw [fin_N0 t]; exact (read_3 (gD (dIn m))).symm)
    (fun i => ⟨t0_0, flush0_3 t0_0, (mem_slice_whole main_v2_1 _ _ (fun _ => Nat.zero_mul _) i)⟩)

/-! ## The body obligation -/

theorem owes_intro (dat : Dat τ (Elt F) Unit ℕ UU ℕ cfg0 c) (t : Fin (cfg0.N + 1)) (O : CellTallies nD τ sig Unit) (h0 : dat.owed t = O)
    (hr : dat.recorded t = Set.univ) : (owing c O : sProp 𝕄) ⊢ (dat.owesAt () t : sProp 𝕄) := by
  unfold owing Dat.owesAt Pipeline.owesWithin Dat.bound
  rw [h0, hr]
  iintro ⟨%W, HO⟩
  iexists W
  isplitr; · ipureintro; exact fun _ _ => Or.inl trivial
  iexact HO
theorem owes_elim (dat : Dat τ (Elt F) Unit ℕ UU ℕ cfg0 c) (t : Fin (cfg0.N + 1)) (O : CellTallies nD τ sig Unit) (h0 : dat.owed t = O) :
    (dat.owesAt () t : sProp 𝕄) ⊢ (owing c O : sProp 𝕄) := by
  unfold owing Dat.owesAt Pipeline.owesWithin
  rw [h0]
  iintro ⟨%W, -, HO⟩
  iexists W; iexact HO

/-- The pipeline's obligation on the body, from the body's run. -/
theorem body_ok : BodyObligation (dat0 (F := F) m c) defs₀ 𝒱₀ () Set.univ := fun t => by
  obtain rfl := fin_N0 t
  rw [bigSep_W0, bigSep_W0]
  show iprop((dat0 m c).Φ t0_0.castSucc ∗ (dat0 m c).owesAt () t0_0.castSucc
      ∗ (∃ d, owns (c : Thread nD τ) (Memref.whole cc0_stg0_0) fullShare ((dat0 m c).before 0 t0_0 d))
      ∗ (∃ d, owns (c : Thread nD τ) (Memref.whole cc0_stg1_0) fullShare ((dat0 m c).before 1 t0_0 d))
      ∗ (∃ d, owns (c : Thread nD τ) (Memref.whole cc0_stg2_0) fullShare ((dat0 m c).before 2 t0_0 d))
      ∗ (∃ d, owns (c : Thread nD τ) (Memref.whole cc0_stg3_0) fullShare ((dat0 m c).before 3 t0_0 d)))
    ⊢ wp frame (wpE (defs₀ (F := F)) 𝒱₀ (c : Thread nD τ) none) Set.univ
        (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          cc0_scratch0 cc0_scratch1 cc0_scratch2 cc0_scratch3 cc0_scoped0)
        fun _ => iprop((dat0 m c).Φ t0_0.succ ∗ (dat0 m c).owesAt () t0_0.succ
          ∗ owns (c : Thread nD τ) (Memref.whole cc0_stg0_0) fullShare (xIn m c)
          ∗ owns (c : Thread nD τ) (Memref.whole cc0_stg1_0) fullShare (dIn m c)
          ∗ owns (c : Thread nD τ) (Memref.whole cc0_stg2_0) fullShare (gX (xIn m))
          ∗ owns (c : Thread nD τ) (Memref.whole cc0_stg3_0) fullShare (gD (dIn m)))
  rw [Φ_first, Φ_last]
  simp only [before_0, before_1, owns_whole]
  unfold enter
  iintro ⟨⟨⟨⟨%κ, #HR⟩, Hg, #Hlev⟩, Hp⟩, HO, ⟨%d0, H0⟩, ⟨%d1, H1⟩, ⟨%d2, H2⟩, ⟨%d3, H3⟩⟩
  iapply (bodyRun (xIn m) (dIn m) κ c _)
  isplitr [Hp]
  · unfold bodyPre
    isplitr; · iexact HR
    isplitr; · iexact Hlev
    isplitl [Hg]; · iexact Hg
    isplitl [H0]; · iexact H0
    isplitl [H1]; · iexact H1
    isplitl [H2]; · iexists _; iexact H2
    isplitl [H3]; · iexists _; iexact H3
    iapply (owes_elim c (dat0 m c) _ _ (owed_first m c)) $$ HO
  unfold bodyPost leave
  iintro ⟨Hv, Hb, Hq, H0, H1, H2, H3, HO⟩
  isplitl [Hv Hb Hq Hp]
  · isplitr [Hp]
    · isplitl [Hv]; · iexact Hv
      isplitl [Hq] <;> iassumption
    iexact Hp
  isplitl [HO]; · iapply (owes_intro c (dat0 m c) _ _ (owed_last m c) rfl) $$ HO
  isplitl [H0]; · iexact H0
  isplitl [H1]; · iexact H1
  isplitl [H2] <;> iassumption

/-! ## The record of the call -/

/-- The levels: the staging semaphores lie under everything owed. -/
theorem owed_lev : ∀ i, i < 12 → 0 < slev (pay i).2.1 := by decide
theorem cut_owed (t : Fin (cfg0.N + 1)) (g : GSem nD τ sig) (u : Unit) (h : 0 < (dat0 (F := F) m c).owed t g u) :
    u ∈ L g ∧ (0 : ℕ) < lv g u := by
  have e : (dat0 (F := F) m c).owed t = if t.val = 0 then owe c 12 else 0 := rfl
  rw [e] at h
  split at h
  · obtain ⟨i, hi, rfl⟩ := owe_pos c 12 g u h
    exact ⟨by rw [L_tc]; exact Finset.mem_singleton_self _, owed_lev i hi⟩
  · exact absurd h (Nat.lt_irrefl 0)
theorem stage_lev : ∀ (w : Fin cfg0.W) (s : Fin (cfg0.win w).nbuf), slev (.dma ((cfg0.win w).sem s)) = 0 := by decide

/-- The buffers that are no window's array. -/
def rest : Finset (DevRef τ sig) := Pipeline.ucRefs τ sig \ Pipeline.arrRefs (pcfgs (F := F) 0).spec

theorem arr_unscoped : ∀ w : Fin 4, (Pipeline.arrRef spec0 w).isScoped = false := by decide

theorem held_split (W : Valuation τ sig (Elt F)) :
    (StableHlo.held (c : Thread nD τ) (Pipeline.ucRefs τ sig) W : sProp 𝕄)
      = iprop(StableHlo.held (c : Thread nD τ) (Pipeline.arrRefs (pcfgs (F := F) 0).spec) W ∗ StableHlo.held (c : Thread nD τ) (rest (F := F)) W) :=
  StableHlo.held_sub_split (c : Thread nD τ) (Pipeline.arrRefs_sub_ucRefs _ arr_unscoped) W

theorem VR_rest (b : DevRef τ sig) (hb : b ∈ rest (F := F)) : VR m c b = V1 m c b := by
  have hb := (Finset.mem_sdiff.mp hb).2
  refine VR_of m c b (fun h => hb ?_) (fun h => hb ?_)
  · rw [h]; exact Finset.mem_map_of_mem _ (Finset.mem_image.mpr ⟨2, Finset.mem_univ _, rfl⟩)
  · rw [h]; exact Finset.mem_map_of_mem _ (Finset.mem_image.mpr ⟨3, Finset.mem_univ _, rfl⟩)

/-- What the launch keeps for the call, with the records. -/
def start (c : Dev nD) : sProp 𝕄 := iprop((∃ κ, recs (xIn m) (dIn m) κ) ∗ kept c)

theorem region_open : iprop(start m c ∗ Pipeline.ownSems0 osem c ∗ levAts L lv) ⊢ (iprop(|={Set.univ}=> enter m c) : sProp 𝕄) := by
  unfold start enter
  iintro ⟨⟨⟨%κ, #HR⟩, Hk⟩, Hv, #Hlev⟩
  imod (kept_open (xIn m) (dIn m) κ c) $$ [Hk Hv] with Hg
  · isplitr; · iexact HR
    isplitl [Hk] <;> iassumption
  imodintro
  isplitr; · iexists κ; iexact HR
  isplitl [Hg]; · iexact Hg
  iexact Hlev

theorem held_none (W : Valuation τ sig (Elt F)) : (StableHlo.held (c : Thread nD τ) ∅ W : sProp 𝕄) = iprop(emp) := by
  unfold StableHlo.held; exact BI.bigSep_empty

theorem region_in : iprop(Pipeline.scopedRest (Pipeline.pin (pcfgs (F := F)) adm 0).spec c ∗ (∃ r, prngReg c r)
      ∗ StableHlo.held (c.tc : Thread nD τ) ∅ (V1 m c) ∗ enter m c) ⊢ (pdats m 0 c).Φ 0 := by
  rw [show (pdats m 0 c).Φ 0 = iprop(enter m c ∗ ∃ r, prngReg c r) from rfl]
  iintro ⟨-, Hp, -, He⟩
  isplitl [He] <;> iassumption

theorem region_out : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (VR m c) ∗ Pipeline.ownSems0 osem c ∗ semVal (barCell c) 0) := by
  rw [show (pdats m 0 c).Φ (Fin.last _) = iprop(leave c ∗ ∃ r, prngReg c r) from rfl, held_none,
    show Pipeline.scopedRest (Pipeline.pin (pcfgs (F := F)) adm 0).spec c = (iprop(emp) : sProp 𝕄) from scopedRest0_eq c]
  unfold leave
  iintro ⟨⟨Hv, Hq, Hb⟩, Hp⟩
  isplitr; · iempintro
  isplitl [Hp]; · iexact Hp
  isplitr; · iempintro
  isplitr [Hb]
  · iapply (vals_close c)
    isplitl [Hv] <;> iassumption
  iexact Hb

theorem arr_first (w : Fin (Pipeline.pin (pcfgs (F := F)) adm 0).W) :
    (pdats m 0 c).arrAt w 0 = V1 m c (Proc.devRef .tc (Pipeline.arrRef (Pipeline.pin (pcfgs (F := F)) adm 0).spec w)) := rfl
theorem arr_last : ∀ w : Fin (Pipeline.pin (pcfgs (F := F)) adm 0).W,
    (pdats m 0 c).arrAt w (Pipeline.pin (pcfgs (F := F)) adm 0).N = VR m c (Proc.devRef .tc (Pipeline.arrRef (Pipeline.pin (pcfgs (F := F)) adm 0).spec w))
  | 0 => ((dat0 (F := F) m c).arrAt_in 0 rfl cfg0.N).trans (VR_of m c (Proc.devRef .tc main_arg0) (StableHlo.devRef_ne_of_ne (by decide)) (StableHlo.devRef_ne_of_ne (by decide))).symm
  | 1 => ((dat0 (F := F) m c).arrAt_in 1 rfl cfg0.N).trans (VR_of m c (Proc.devRef .tc main_v1) (StableHlo.devRef_ne_of_ne (by decide)) (StableHlo.devRef_ne_of_ne (by decide))).symm
  | 2 => (arr_2 m c).trans (VR_0 m c).symm
  | 3 => (arr_3 m c).trans (VR_1 m c).symm
  | ⟨_ + 4, h⟩ => absurd h (Nat.not_lt.2 (Nat.le_add_left _ _))

/-- Every array is held whole. -/
theorem share_full (c : Dev nD) : ∀ w : Fin (Pipeline.pin (pcfgs (F := F)) adm 0).W, (pdats m 0 c).share w = fullShare
  | 0 => rfl | 1 => rfl | 2 => rfl | 3 => rfl
  | ⟨_ + 4, h⟩ => absurd h (Nat.not_lt.2 (Nat.le_add_left _ _))

set_option backward.isDefEq.respectTransparency.types false in
/-- The call as an item of @main. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (rest (F := F)) (Finset.empty_subset _) launch0.toP rfl (fun c => (body_ok m c).loose)
    (fun _ => 0) (fun c => owe c 12) (fun c => (zero_add _).symm) (fun _ => rfl) (fun _ => rfl) (share_full m)
    (V1 m) (VR m) (fun c b hb => VR_rest m c b (Finset.mem_sdiff.mp hb).1)
    (start m) (fun c => semVal (barCell c) 0) (enter m) (fun c => semVal (barCell c) 0) (region_open m) (region_in m) (region_out m)
    (fun c => by iintro H; imodintro; iexact H)
    (fun _ => 0)
    ⟨fun c w s => by rw [L_tc]; exact Finset.mem_singleton_self _, fun c w s => Nat.le_of_eq (stage_lev w s), fun c t g i h => cut_owed m c t g i h⟩
    (fun _ => iprop(emp)) (arr_first m) (arr_last m)

/-- What rides beside the buffers before the call, and after it. -/
def riding : Fin 2 → Dev nD → sProp 𝕄
  | 0, c => iprop(start m c ∗ (∃ r, prngReg c r) ∗ owing c (owe c 12))
  | 1, c => iprop(semVal (barCell c) 0 ∗ owing c 0)

theorem region_pre (c : Dev nD) :
    iprop(StableHlo.held (c : Thread nD τ) (Pipeline.ucRefs τ sig) (V1 m c) ∗ riding m 0 c) ⊢ (region m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (rest (F := F)) (V1 m c) ∗ emp) ∗ start m c ∗ ∃ Wd, owes (c : Thread nD τ) (0 + owe c 12) Wd)
  rw [held_split, zero_add]
  unfold riding owing
  iintro ⟨⟨Ha, Hr⟩, Hs, Hp, HO⟩
  isplitl [Ha]; · iexact Ha
  isplitl [Hp]; · iexact Hp
  isplitl [Hr]
  · isplitl [Hr]; · iexact Hr
    iempintro
  isplitl [Hs] <;> iassumption

theorem region_post (c : Dev nD) :
    (region m).post c ⊢ iprop(StableHlo.held (c : Thread nD τ) (Pipeline.ucRefs τ sig) (V2 m (outs m) c) ∗ riding m 1 c) := by
  show iprop(StableHlo.held (c.tc : Thread nD τ) (Pipeline.arrRefs (τ := τ) (pcfgs (F := F) 0).spec) (VR m c) ∗ (∃ r, prngReg c r)
    ∗ (StableHlo.held (c.tc : Thread nD τ) (rest (F := F)) (VR m c) ∗ emp) ∗ semVal (barCell c) 0
    ∗ ∃ Wd, owes (c : Thread nD τ) (0 : CellTallies nD τ sig Unit) Wd) ⊢ _
  rw [V2_outs, held_split]
  unfold riding owing
  iintro ⟨Ha, -, ⟨Hr, -⟩, Hb, HO⟩
  isplitl [Ha Hr]; · isplitl [Ha] <;> iassumption
  isplitl [Hb] <;> iassumption

end Cert.KernelIdeal.Talk

end
-- ==== Proof.IdealLaunch.lean ====
/-
  The launch of the exchange (program `KernelIdeal`): every cell's invariant is made, the barrier's open and the call's own
  closed until the call; each device is dealt the rights to its payments and what is owed to it; and the run of @main that
  follows, with what every buffer holds at the end.
-/
module

public import proofs.«01_k».proof.Proof.IdealRegion

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf Seg)

variable {F : FTy → Type} [FloatOps F]

local notation "𝕄" => MT nD τ sig Unit (Elt F) ℕ UU ℕ

/-! ## The rights to pay -/

/-- The six payments device `c` makes for its peer `k`. -/
def tok (x : Dev nD × Fin 3 × Fin 6) : GSem nD τ sig × ℕ × Fin 3 :=
  match x with
  | (c, k, 0) => (barCell (peer k c), 0, opp k)
  | (c, k, 1) => (secCell (peer k c), 0, opp k)
  | (c, k, 2) => (xsCell k c, 0, 0)
  | (c, k, 3) => (xrCell k (peer k c), 0, 0)
  | (c, k, 4) => (dsCell k c, 0, 0)
  | (c, k, 5) => (drCell k (peer k c), 0, 0)
theorem tok_inj : Function.Injective tok := by decide +kernel
def payments : Finset (GSem nD τ sig × ℕ × Fin 3) := Finset.univ.map ⟨tok, tok_inj⟩

/-- The right to one payment. -/
def right (x : GSem nD τ sig × ℕ × Fin 3) : sProp 𝕄 := dutyTok ER x.1 x.2.1 x.2.2

/-- A device's six rights against one peer. -/
theorem rights_peer (c : Dev nD) (k : Fin 3) : (bigSep Finset.univ fun j : Fin 6 => (right (tok (c, k, j)) : sProp 𝕄)) = toks k c := by
  refine (bigSep_univ_eq_bigSepL ([0, 1, 2, 3, 4, 5] : List (Fin 6)) (by decide) (by decide) _).trans ?_
  unfold toks
  rfl

/-- All the rights, dealt to the devices that pay. -/
theorem payments_eq : bigSep payments (right (F := F)) = bigSep Finset.univ fun c : Dev nD => iprop(toks 0 c ∗ toks 1 c ∗ toks 2 c) := by
  unfold payments
  rw [bigSep_map, bigSep_univ_prod]
  refine bigSep_congr fun c _ => ?_
  rw [bigSep_univ_prod]
  refine (bigSep_congr fun k _ => rights_peer (F := F) c k).trans ?_
  exact bigSep_univ_eq_bigSepL ([0, 1, 2] : List (Fin 3)) (by decide) (by decide) fun k => toks k c

theorem payments_deal : (bigSep payments fun x => (dutyTok ER x.1 x.2.1 x.2.2 : sProp 𝕄))
    ⊢ bigSep Finset.univ fun c : Dev nD => iprop(toks 0 c ∗ toks 1 c ∗ toks 2 c) :=
  Entails.of_eq payments_eq

/-! ## What is owed to a device -/

/-- What is owed to device `c` out of the last `n` payments of every device: each payment's units, on its own semaphore. -/
def dues (c : Dev nD) : ℕ → sProp 𝕄
  | 0 => iprop(emp)
  | n + 1 => iprop(dues c n ∗ cred (tallyAt ((c : Thread nD τ), (pay n).2.1) () (pay n).2.2))

theorem launch_dues (c : Dev nD) (n : ℕ) : (Pipeline.launchCred (fun d => owe d n) c : sProp 𝕄) ⊢ dues c n := by
  induction n with
  | zero => exact Entails.of_eq (Pipeline.launchCred_zero c)
  | succ n ih =>
    refine (Entails.of_eq (Pipeline.launchCred_add (fun d => owe d n) (fun d => due d n) c)).trans (Laws.sep_mono ih ?_)
    exact Pipeline.launchCred_tallyAt (pay n).2.1 (peer (pay n).1) (peer (opp (pay n).1)) (peer_peer_opp _) (peer_opp_peer _) () _ c

/-- Three units of one cell together. -/
theorem cred_three (g : GSem nD τ sig) :
    iprop(cred (tallyAt g () 1) ∗ cred (tallyAt g () 1) ∗ cred (tallyAt g () 1)) ⊢ (cred (tallyAt g () 3) : sProp 𝕄) := by
  have e : (tallyAt g () 3 : CellTallies nD τ sig Unit) = tallyAt g () 1 + (tallyAt g () 1 + tallyAt g () 1) := by
    rw [tallyAt_add, tallyAt_add]
  rw [e]
  exact (Laws.sep_mono .rfl (cred_add _ _).2).trans (cred_add _ _).2

theorem launch_creds (c : Dev nD) : (Pipeline.launchCred (fun d => owe d 12) c : sProp 𝕄)
    ⊢ iprop((creds 0 c ∗ creds 1 c ∗ creds 2 c) ∗ cred (tallyAt (barCell c) () 3) ∗ cred (tallyAt (secCell c) () 3)) := by
  refine (launch_dues c 12).trans ?_
  simp only [dues, pay]
  unfold creds
  iintro ⟨⟨⟨⟨⟨⟨⟨⟨⟨⟨⟨⟨-, Hq2⟩, Hq1⟩, Hq0⟩, Hd2⟩, Hx2⟩, Hd1⟩, Hx1⟩, Hd0⟩, Hx0⟩, Hb2⟩, Hb1⟩, Hb0⟩
  isplitl [Hd2 Hx2 Hd1 Hx1 Hd0 Hx0]
  · isplitl [Hd0 Hx0]; · isplitl [Hx0] <;> iassumption
    isplitl [Hd1 Hx1]; · isplitl [Hx1] <;> iassumption
    isplitl [Hx2] <;> iassumption
  isplitl [Hb2 Hb1 Hb0]
  · iapply (cred_three (barCell c))
    isplitl [Hb0]; · iexact Hb0
    isplitl [Hb1] <;> iassumption
  iapply (cred_three (secCell c))
  isplitl [Hq0]; · iexact Hq0
  isplitl [Hq1] <;> iassumption

/-! ## The launch -/

theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact (by decide : ∀ j, osem j ≠ .reg barS) p.2 (congrArg Prod.snd h)

/-- The ghost state at launch: the pipeline's and the protocol's. -/
def u₀ : UU :=
  (initOf (Pipeline.cells (Pipeline.pin (pcfgs (F := F)) adm) cellOf_inj) (Pipeline.launchToks (Pipeline.pin (pcfgs (F := F)) adm) cellOf_inj),
    launchOf barCells scCells payments)

/-- The protocol's part, given whole to device 0 until it is dealt. -/
def whole : sProp 𝕄 := BI.own (ER (launchOf barCells scCells payments))
def G (c : Dev nD) : sProp 𝕄 := if c = 0 then whole else iprop(emp)
theorem G_eq : bigSep Finset.univ (G (F := F)) ⊣⊢ (whole : sProp 𝕄) := by
  rw [bigSep_univ_at _ (0 : Dev nD), bigSep_congr (s := Finset.univ.erase 0) (Φ := G) (Ψ := fun _ => (BI.emp : sProp 𝕄))
    fun c hc => if_neg (Finset.ne_of_mem_erase hc), BI.bigSep_emp_const]
  exact sep_emp

variable (m : (ℓ : Loc nD τ sig) → Buf (Elt F) ℓ) (ρ : Dev nD → PrngReg)

/-- What every device reads from launch on: the records, and that every barrier is in its one round. -/
def known (κ : GSem nD τ sig → ℕ) : sProp 𝕄 :=
  iprop(recs (xIn m) (dIn m) κ ∗ bigSep barCells fun g => reached ER g 0)
instance known_persistent (κ : GSem nD τ sig → ℕ) : BI.Persistent (known m κ) := by unfold known; infer_instance

theorem known_bar (c : Dev nD) : (bigSep barCells fun g => (reached ER g 0 : sProp 𝕄)) ⊢ reached ER (barCell c) 0 :=
  bigSep_elim (Finset.mem_map_of_mem _ (Finset.mem_univ c))

/-- A device's ghost state out of the launch, and the rest of what it is launched with. -/
def dealt (c : Dev nD) : sProp 𝕄 :=
  iprop(atPos ER (barCell c) 0 ∅ 0 ∗ (bigSep Finset.univ fun j : Fin 13 => openTok ER ((c : Thread nD τ), osem j))
    ∗ (toks 0 c ∗ toks 1 c ∗ toks 2 c))
def given (c : Dev nD) : sProp 𝕄 :=
  iprop(StableHlo.held (c : Thread nD τ) (Pipeline.ucRefs τ sig) (V0 m c)
    ∗ ((creds 0 c ∗ creds 1 c ∗ creds 2 c) ∗ cred (tallyAt (barCell c) () 3) ∗ cred (tallyAt (secCell c) () 3))
    ∗ owing c (owe c 12) ∗ ∃ r, prngReg c r)

/-- What a device starts @main with. -/
def first (c : Dev nD) : sProp 𝕄 := iprop(StableHlo.held (c : Thread nD τ) (Pipeline.ucRefs τ sig) (V0 m c) ∗ riding m 0 c)
/-- What it ends @main with. -/
def final (c : Dev nD) : sProp 𝕄 :=
  iprop(StableHlo.held (c : Thread nD τ) (Pipeline.ucRefs τ sig) (V6 m (outs m) c) ∗ semVal (barCell c) 0)

theorem first_intro (κ : GSem nD τ sig → ℕ) (c : Dev nD) : iprop(known m κ ∗ (dealt c ∗ given m c)) ⊢ first m c := by
  unfold known dealt given first riding start kept
  iintro ⟨⟨#HR, #HB⟩, ⟨Ha, Ho, Ht⟩, Hh, ⟨Hc, H3, H3'⟩, HO, Hp⟩
  isplitl [Hh]; · iexact Hh
  isplitr [HO Hp]
  · isplitr; · iexists κ; iexact HR
    isplitl [Ht]; · iexact Ht
    isplitl [Hc]; · iexact Hc
    isplitl [Ha H3]
    · isplitl [Ha]; · iexact Ha
      isplitl [H3]; · iexact H3
      isplitr; · iapply (known_bar (F := F) (peer 0 c)); iexact HB
      isplitr; · iapply (known_bar (F := F) (peer 1 c)); iexact HB
      iapply (known_bar (F := F) (peer 2 c)); iexact HB
    isplitl [H3'] <;> iassumption
  isplitl [Hp] <;> iassumption

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- One device's part of the launch. -/
theorem launch_one (c : Dev nD) :
    iprop(unscopedBufs c (fun b => m ((c : Thread nD τ).loc b)) ∗ unscopedSems0 c ∗ owes (c : Thread nD τ) (owe c 12) ∅
        ∗ Pipeline.launchCred (fun d => owe d 12) c ∗ prngReg c (ρ c) ∗ G c)
      ⊢ (iprop(given m c ∗ (semVal (barCell c) 0 ∗ G c)) : sProp 𝕄) := by
  rw [show unscopedBufs c (fun b => m ((c : Thread nD τ).loc b)) = StableHlo.held (c : Thread nD τ) (Pipeline.ucRefs τ sig) (V0 m c) from
      Pipeline.unscopedBufs_held c (V0 m c), unscopedSems0_eq]
  unfold given owing
  iintro ⟨Hh, Hb, HO, Hc, Hp, HG⟩
  ihave Hc := (launch_creds (F := F) c) $$ Hc
  isplitr [Hb HG]
  · isplitl [Hh]; · iexact Hh
    isplitl [Hc]; · iexact Hc
    isplitl [HO]; · iexists ∅; iexact HO
    iexists (ρ c); iexact Hp
  isplitl [Hb] <;> iassumption

theorem launch_all :
    (bigSep Finset.univ fun c : Dev nD => iprop(unscopedBufs c (fun b => m ((c : Thread nD τ).loc b)) ∗ unscopedSems0 c
        ∗ owes (c : Thread nD τ) (owe c 12) ∅ ∗ Pipeline.launchCred (fun d => owe d 12) c ∗ prngReg c (ρ c) ∗ G c))
      ⊢ (bigSep Finset.univ fun c : Dev nD => iprop(given m c ∗ (semVal (barCell c) 0 ∗ G c)) : sProp 𝕄) :=
  bigSep_mono fun c _ => launch_one m ρ c

theorem bigSep_split {I : Type} {s : Finset I} (Φ Ψ : I → sProp 𝕄) : (bigSep s fun i => iprop(Φ i ∗ Ψ i)) ⊢ iprop(bigSep s Φ ∗ bigSep s Ψ) :=
  Entails.of_eq (bigSep_sep _ _ _)

theorem bars_eq (Φ : GSem nD τ sig → sProp 𝕄) : bigSep barCells Φ = bigSep Finset.univ fun c : Dev nD => Φ (barCell c) :=
  bigSep_map _
theorem calls_eq (Φ : GSem nD τ sig → sProp 𝕄) :
    bigSep scCells Φ = bigSep Finset.univ fun c : Dev nD => bigSep Finset.univ fun j : Fin 13 => Φ ((c : Thread nD τ), osem j) :=
  (bigSep_map _).trans (bigSep_univ_prod _)

/-- The whole launch. -/
theorem launch :
    iprop((bigSep Finset.univ fun c : Dev nD => iprop(unscopedBufs c (fun b => m ((c : Thread nD τ).loc b)) ∗ unscopedSems0 c
          ∗ owes (c : Thread nD τ) (owe c 12) ∅ ∗ Pipeline.launchCred (fun d => owe d 12) c ∗ prngReg c (ρ c) ∗ G c)) ∗ levAts L lv)
      ⊢ (iprop(|={Set.univ}=> bigSep Finset.univ (first m)) : sProp 𝕄) := by
  iintro ⟨H, -⟩
  ihave H := (launch_all m ρ) $$ H
  ihave H := (bigSep_split _ _) $$ H; icases H with ⟨HB, H⟩
  ihave H := (bigSep_split _ _) $$ H; icases H with ⟨Hv, HG⟩
  ihave Hu := (G_eq (F := F)).1 $$ HG
  unfold whole
  imod (Rounds.fund_launch ER (rd (xIn m) (dIn m)) disjoint_cells (fun g _ h => h) payments) $$ [Hv Hu] with ⟨%κ, -, #Hinv, #Hr, Hat, Hopen, Htok⟩
  · isplitl [Hv]
    · iapply (Entails.of_eq (bars_eq (F := F) fun g => semVal g 0).symm) $$ Hv
    · iexact Hu
  imodintro
  iapply (bigSep_with_persistent (R := known m κ) (Φ := fun c => iprop(dealt c ∗ given m c)) fun c _ => first_intro m κ c)
  isplitr
  · unfold known recs
    isplitr; · iexact Hinv
    iexact Hr
  iapply (bigSep_join _ _)
  isplitr [HB]
  · unfold dealt
    iapply (bigSep_join _ _); isplitl [Hat]; · iapply (Entails.of_eq (bars_eq (F := F) _)) $$ Hat
    iapply (bigSep_join _ _); isplitl [Hopen]; · iapply (Entails.of_eq (calls_eq (F := F) _)) $$ Hopen
    iapply (payments_deal (F := F)) $$ Htok
  iexact HB

/-! ## The run -/

theorem unscoped_eq : ∀ sm : SemLoc sig, sm.isScoped .tc = false → sm = .reg barS := by decide

set_option backward.isDefEq.respectTransparency.types false in
/-- From any memory with zero counters, every weakly fair execution of @main on the four devices terminates, and every final
    state has each device's buffers at the contents the items name in turn, and every semaphore counter at zero. -/
theorem run_main : θ_run defs (onTc (τ := τ) (main (F := F))) ⟨m, fun _ => 0, ρ⟩
    (fun r => (∀ c : Dev nD, ∀ b ∈ Pipeline.ucRefs τ sig, r.2.mem (c, b) = V6 m (outs m) c b) ∧ r.2.sem = fun _ => 0) :=
  Pipeline.θ_run_regions_kit_dev_sems (pcfgs (F := F)) adm (pdats m) () cellOf_inj EP defs₀ 𝒱₀ L lv m ρ main
    (segs m (outs m) 𝒱₀ L lv (riding m) () (pdats m) (region m))
    (fun c Q => by
      rewrite [main_chain c, Seg.run_eq_chain,
        show (segs m (outs m) 𝒱₀ L lv (riding m) () (pdats m) (region m) c).map Seg.prog = [
          StableHlo.seq hostOps0,
          Prog.lift (.customCall (Pipeline.entry 0) ()),
          StableHlo.seq hostOps1,
          StableHlo.seq hostOps1_1,
          StableHlo.seq (hostOps1_2 c),
          StableHlo.seq hostOps1_3 ] from rfl]
      dsimp (config := { failIfUnchanged := false }) only
      exact .rfl)
    (fun c => by simp only [segs, Seg.pipes_host, Seg.pipes_region, Seg.pipes_nil]; decide)
    (O₀ := fun c => owe c 12) (hL := L_of_ne) (G := G) (u₀ := u₀)
    (hu₀ := by
      unfold u₀
      iintro Hu
      ihave H := (ownU_pair _ _) $$ Hu
      icases H with ⟨HP, HX⟩
      imodintro
      isplitl [HP]; · iexact HP
      iapply (G_eq (F := F)).2
      unfold whole
      iexact HX)
    (T₀ := first m) (Tₙ := final m)
    (hch := fun c => ⟨.rfl, region_pre m c, region_post m c, .rfl, .rfl, .rfl, by
      show iprop(StableHlo.held (c : Thread nD τ) (Pipeline.ucRefs τ sig) (V6 m (outs m) c) ∗ riding m 1 c)
        ⊢ iprop(final m c ∗ ∃ W, owes (c : Thread nD τ) (0 : CellTallies nD τ sig Unit) W)
      unfold final riding owing
      iintro ⟨Hh, Hb, HO⟩
      isplitr [HO]
      · isplitl [Hh] <;> iassumption
      iexact HO⟩)
    (hinit := launch m ρ)
    (QY := fun c s => (∀ b ∈ Pipeline.ucRefs τ sig, s.mem (c, b) = V6 m (outs m) c b) ∧ s.sem (barCell c) = 0)
    (hfin := fun c s' => by
      unfold final StableHlo.held
      iintro ⟨⟨Hh, Hb⟩, HSI⟩
      ihave Hr := (pointsTo_read_all (Pipeline.ucRefs τ sig) (fun b => ((c : Thread nD τ).1, b)) (V6 m (outs m) c) s') $$ [Hh HSI]
      · isplitl [Hh] <;> iassumption
      icases Hr with ⟨%h, HSI⟩
      icombine HSI Hb gives %hb
      imodintro
      isplitr
      · ipureintro
        exact ⟨h, by simpa using hb⟩
      iexact HSI)
    (hQ := fun s h hs => ⟨fun c => (h c).1, sem_eq_zero hs fun c sm hsm => by
      obtain rfl := unscoped_eq sm hsm
      exact (h c).2⟩)

end Cert.KernelIdeal.Talk

end
-- ==== Proof.Values.lean ====
/-
  The values, with no program in sight: the positions a stable argsort gives, rows taken at such positions, a slice of the
  positions, and the stacked blocks of the devices as the whole array.
-/
module

public import Idealize.ShloMosaic.Lib.Layout
public import Idealize.ShloMosaic.Lib.SortFacts
public import Idealize.ShloMosaic.Lib.DynamicIndex
public import Idealize.ShloMosaic.Lib.Routing.Ops

@[expose] public section

noncomputable section

namespace Cert.Values

open Idealize.ShloMosaic Idealize.ShloMosaic.ValueIdx Idealize.ShloMosaic.Routing
open Idealize.ShloMosaic.StableHlo.Predicate (bcast_col1 ixP)

/-! ## The argsort -/

/-- One destination before another. -/
def lower (l r : BitVec 32 × BitVec 32) : BitVec 1 := IntOp.cmpi .slt l.1 r.1

/-- The position of the row that the stable sort of the destinations `d` puts at place `j`. -/
def order {n : ℕ} (d : IVec (shape1 n) 32) (j : Fin n) : Fin n :=
  sortedFrom (fun k k' => lower (d (Shape.Idx.ofFin k), BitVec.ofNat 32 k.val) (d (Shape.Idx.ofFin k'), BitVec.ofNat 32 k'.val) == 1#1) j

/-- The argsort's words are those positions. -/
theorem argsort_apply {n : ℕ} (d : IVec (shape1 n) 32) (j : (shape1 n).Idx) :
    (Host.sort2 (shape1 n) 0 lower d (iotaInDim (shape1 n) 32 0)).2 j = BitVec.ofNat 32 (order d (j 0)).val := by
  unfold Host.sort2 order
  simp
  rfl

/-! ## Rows taken at positions -/

section Take
variable {n : ℕ} (s : IVec (shape1 n) 32) (b0 : shape0.BroadcastsInDim (shape1 n) ![])

/-- An index read from the end where it is negative. -/
def wrapped : IVec (shape1 n) 32 :=
  select (cmpi .slt s (broadcastInDim (shape1 n) ![] b0 (constantI shape0 32 0#32)))
    (addi s (broadcastInDim (shape1 n) ![] b0 (constantI shape0 32 2048#32))) s

/-- A position is not negative: it is itself. -/
theorem wrapped_apply (j : (shape1 n).Idx) (b : Fin 2048) (h : s j = BitVec.ofNat 32 b.val) : wrapped s b0 j = BitVec.ofNat 32 b.val :=
  (select_slt_zero_of_nonneg s _ s j (by rw [h, toInt_ofNat_of_lt (by have := b.isLt; omega)]; exact Int.natCast_nonneg _)).trans h

/-- Where the index is the position `b`, row `b` is taken. -/
theorem gather_apply {α : Type} (d : GatherDims (shape2 2048 256) (shape2 n 1) (shape2 n 256)) (hoff : d.offsetDims = [1])
    (hcoll : d.collapsedSliceDims = [0]) (hob : d.operandBatchingDims = []) (hsim : d.startIndexMap = [0]) (hivd : d.indexVectorDim = 1)
    (b1 : (shape1 n).BroadcastsInDim (shape2 n 1) ![0]) (x : (shape2 2048 256).Idx → α) (r : Fin n) (y : Fin 256) (b : Fin 2048)
    (h : s (ix1 r) = BitVec.ofNat 32 b.val) :
    Host.gather d x (broadcastInDim (shape2 n 1) ![0] b1 (wrapped s b0)) (ix2 r y) = x (ix2 b y) := by
  refine gather_row d hoff hcoll hob hsim hivd x _ r y b ?_ (by decide)
  rw [← ixP_eq_ix2, bcast_col1, ofFin_eq_ix1]
  exact wrapped_apply s b0 _ b h

/-- A fold by "and" over ones, from one, is one. -/
theorem reduce_ones {S T u : Shape} {axes : List (Fin S.rank)} (x : IVec S 1) (init : IVec u 1) (h : S.ReducesTo axes T) (hu : 0 < u.numel)
    (hx : ∀ i, x i = 1#1) (hi : ∀ i, init i = 1#1) (j : T.Idx) : Host.reduce IntOp.andi x init h hu j = 1#1 := by
  unfold Host.reduce
  rw [hi]
  generalize (List.finRange S.numel).filter _ = l
  induction l with
  | nil => rfl
  | cons a l ih =>
    rw [List.foldl_cons, hx]
    exact ih

/-- A position is in range. -/
theorem in_range : ∀ b : Fin 2048,
    IntOp.andi (IntOp.cmpi .sge (BitVec.ofNat 32 b.val) 0#32) (IntOp.cmpi .sle (BitVec.ofNat 32 b.val) 2047#32) = 1#1 := by
  decide +kernel

end Take

/-! ## The stacked blocks -/

/-- The blocks of a rank-2 array, stacked and read as one array, are the array. -/
theorem stack_rows {α : Type} (X : (shape2 2048 256).Idx → α) (T : Layout.Tiles (shape2 512 256) (shape2 2048 256) 0 4)
    (h : (shape3 4 512 256).ShapeCasts (shape2 2048 256)) :
    shapeCast (shape2 2048 256) (fun i : (shape3 4 512 256).Idx => Layout.block (shape2 512 256) (shape2 2048 256) 0 4 (i 0) X T (ix2 (i 1) (i 2))) h = X := by
  funext j
  obtain ⟨p, y, rfl⟩ : ∃ (p : Fin 2048) (y : Fin 256), j = ix2 p y := ⟨j 0, j 1, eq_ix2 j⟩
  have hp := p.isLt
  refine (shapeCast_apply _ h (ix2 p y) (ix3 (⟨p.val / 512, by omega⟩ : Fin 4) (⟨p.val % 512, by omega⟩ : Fin 512) y) ?_).trans ?_
  · rw [Shape.rowMajor_val_three, Shape.rowMajor_val_two]
    show (p.val / 512 * 512 + p.val % 512) * 256 + y.val = p.val * 256 + y.val
    omega
  · rw [Layout.block_apply]
    refine congrArg X (funext fun a => Fin.ext ?_)
    rw [Layout.Tiles.idx_val]
    match a with
    | ⟨0, _⟩ => show p.val / 512 * 512 + p.val % 512 = p.val; omega
    | ⟨1, _⟩ => rfl

/-- The blocks of a rank-1 array, each read as four rows of 128, stacked and read as one array, are the array. -/
theorem stack_vec {α : Type} (D : (shape1 2048).Idx → α) (T : Layout.Tiles (shape1 512) (shape1 2048) 0 4)
    (h : (shape3 4 4 128).ShapeCasts (shape1 2048)) (h' : (shape1 512).ShapeCasts (shape2 4 128)) :
    shapeCast (shape1 2048) (fun i : (shape3 4 4 128).Idx =>
      shapeCast (shape2 4 128) (Layout.block (shape1 512) (shape1 2048) 0 4 (i 0) D T) h' (ix2 (i 1) (i 2))) h = D := by
  funext j
  obtain ⟨p, rfl⟩ : ∃ p : Fin 2048, j = ix1 p := ⟨j 0, eq_ix1 j⟩
  have hp := p.isLt
  refine (shapeCast_apply _ h (ix1 p) (ix3 (⟨p.val / 512, by omega⟩ : Fin 4) (⟨p.val % 512 / 128, by omega⟩ : Fin 4) (⟨p.val % 128, by omega⟩ : Fin 128)) ?_).trans ?_
  · rw [Shape.rowMajor_val_three, Shape.rowMajor_val_one]
    show (p.val / 512 * 4 + p.val % 512 / 128) * 128 + p.val % 128 = p.val
    omega
  refine (shapeCast_apply _ h' _ (ix1 (⟨p.val % 512, by omega⟩ : Fin 512)) ?_).trans ?_
  · rw [Shape.rowMajor_val_one, Shape.rowMajor_val_two]
    show p.val % 512 = p.val % 512 / 128 * 128 + p.val % 128
    omega
  · rw [Layout.block_apply]
    refine congrArg D (funext fun a => Fin.ext ?_)
    rw [Layout.Tiles.idx_val]
    match a with
    | ⟨0, _⟩ => show p.val / 512 * 512 + p.val % 512 = p.val; omega

/-! ## A device's share of the positions -/

/-- A slice at the start `k` of a rank-1 array, read at `r`. -/
theorem slice_apply {α : Type} (x : (shape1 2048).Idx → α) (start : Fin 1 → ℤ) (h : (shape1 2048).Slices (fun _ => 0) (shape1 512))
    (c : Fin 4) (hs : start 0 = ((512 * c.val : ℕ) : ℤ)) (r : Fin 512) :
    Host.dynamicSlice (shape1 512) x start h (ix1 r) = x (ix1 (⟨512 * c.val + r.val, by omega⟩ : Fin 2048)) := by
  have hoff : (shape1 2048).Slices (fun _ => 512 * c.val) (shape1 512) := ⟨rfl, fun a => by
    obtain rfl : a = 0 := Subsingleton.elim _ _
    show 512 * c.val + 512 ≤ 2048
    omega⟩
  rw [Host.dynamicSlice_eq_extractStridedSlice (shape1 512) x start (fun _ => 512 * c.val) h hoff fun a => by
    obtain rfl : a = 0 := Subsingleton.elim _ _
    exact hs]
  refine congrArg x (funext fun a => ?_)
  match a with
  | ⟨0, _⟩ => rfl

end Cert.Values

end
-- ==== Proof.IdealValue.lean ====
/-
  What @main (program `KernelIdeal`) leaves on a device, in terms of the whole arrays the devices' arguments are blocks of.
-/
module

public import proofs.«01_k».proof.Proof.IdealLaunch
public import proofs.«01_k».proof.Proof.Values

@[expose] public section

noncomputable section

namespace Cert.KernelIdeal.Talk

open Cert.KernelIdeal Cert.KernelIdeal.Gen Cert.Values
open Idealize.ShloMosaic Idealize.ShloMosaic.TcCoe Idealize.ShloMosaic.StableHlo
open Idealize.ShloMosaic.ValueIdx

variable {F : FTy → Type} [FloatOps F]

/-! ## The stretches of @main -/

variable (W : Valuation τ sig (Elt F))

/-- Which indices are in range. -/
def inRange (i : IVec S512x1 32) : IVec S512x1 1 :=
  andi (cmpi .sge i (broadcastInDim S512x1 ![] bcast_S_S512x1 (constantI S_ 32 0#32)))
    (cmpi .sle i (broadcastInDim S512x1 ![0, 1] bcast_S1x1_S512x1_0_1 (broadcastInDim S1x1 ![1] bcast_S1_S1x1_1 (constantI S1 32 2047#32))))
theorem inRange_one (i : IVec S512x1 32) (j : S512x1.Idx) (b : Fin 2048) (h : i j = BitVec.ofNat 32 b.val) : inRange i j = 1#1 := by
  refine Eq.trans ?_ (in_range b)
  rw [← h]
  rfl

/-- The rows taken: at each index, read from the end where negative, and not-a-number where out of range. -/
def taken (x : Vec F S2048x256 .f32) (s : Vec F S512 .i32) : Vec F S512x256 .f32 :=
  let i := broadcastInDim S512x1 ![0] bcast_S512_S512x1_0 (wrapped s bcast_S_S512)
  select (broadcastInDim S512x256 ![0] bcast_S512_S512x256_0
      (Host.reduce IntOp.andi (inRange i) (constantI S_ 1 1#1) reducesTo_S512x1_S512_d1 h_S_))
    (Host.gather gather_S2048x256_S512x1_S512x256_1_0_n_n_0_1_1256 x i)
    (broadcastInDim S512x256 ![] bcast_S_S512x256 (constant S_ .f32 0x7FC00000#32))

/-- Where device `c`'s share of the positions starts. -/
def share0 (c : Dev nD) : IVec S_ 32 :=
  let k := muli (Host.remui (Host.divui (constantI S_ 32 (Dev.word c)) (constantI S_ 32 1#32)) (constantI S_ 32 4#32)) (constantI S_ 32 512#32)
  select (cmpi .slt k (constantI S_ 32 0#32)) (addi k (constantI S_ 32 2048#32)) k

theorem share0_val : ∀ c : Dev nD, (share0 c (Shape.Idx.first h_S_)).toInt = ((512 * c.val : ℕ) : ℤ) := by decide +kernel

set_option maxHeartbeats 1200000 in
theorem after_take : after hostOps1_3 W main_v15 = taken (W main_v3) (W main_v14) := by
  simp only [hostOps1_3, TRef.binary, TRef.nullary, TRef.unary, TRef.ternary, TRef.toBuf, TRef.ofBuf, cast_eq]
  after_results <;> rfl
theorem after_slice (c : Dev nD) : after (hostOps1_2 c) W main_v14
    = Host.dynamicSlice S512 (W main_v5) (fun _ => (share0 c (Shape.Idx.first h_S_)).toInt) sliceFits_S2048_S512 := by
  have hk (V : Valuation τ sig (Elt F)) (hV : (V main_v13 : Vec F S_ .i32) = share0 c) (k : Fin 1)
      (h : (![main_v13] k).ty.Contents (Elt F) = (⟨S_, .i32⟩ : BufTy).Contents (Elt F)) :
      BitVec.toInt ((cast h (V (Proc.devRef .tc (![main_v13] k))) : Vec F S_ .i32) (Shape.Idx.first h_S_))
        = (share0 c (Shape.Idx.first h_S_)).toInt := by
    obtain rfl : k = 0 := Subsingleton.elim _ _
    rw [← hV]
    rfl
  after_results
  refine congrArg (fun st => Host.dynamicSlice S512 _ st sliceFits_S2048_S512) (funext fun k => hk _ ?_ k _)
  after_results_simp <;> rfl
theorem after_sort : after hostOps1_1 W main_v5 = (Host.sort2 S2048 0 comparator_i32_i32_d0 (W main_v4) (iotaInDim S2048 32 0)).2 := by
  simp only [hostOps1_1, TRef.binary, TRef.nullary, TRef.toBuf, TRef.ofBuf, cast_eq]
  after_results <;> rfl
theorem after_stack_x : after hostOps1 W main_v3 = shapeCast S2048x256 (W main_v2_0 : Vec F S4x512x256 .f32) shapeCasts_S4x512x256_S2048x256 := by
  after_results <;> rfl
theorem after_stack_d : after hostOps1 W main_v4 = shapeCast S2048 (W main_v2_1 : Vec F S4x4x128 .i32) shapeCasts_S4x4x128_S2048 := by
  after_results <;> rfl
theorem after_rows : after hostOps0 W main_v1 = shapeCast S4x128 (W main_arg1 : Vec F S512 .i32) shapeCasts_S512_S4x128 := by
  after_results <;> rfl

/-- Where every index is a position, no row is out of range: the rows taken are the rows at those positions. -/
theorem taken_apply (x : Vec F S2048x256 .f32) (s : Vec F S512 .i32) (at' : Fin 512 → Fin 2048)
    (h : ∀ r, s (ix1 r) = BitVec.ofNat 32 (at' r).val) (r : Fin 512) (y : Fin 256) :
    taken x s (ix2 r y) = x (ix2 (at' r) y) := by
  have hw (j : S512.Idx) : ∃ b : Fin 2048, wrapped s bcast_S_S512 j = BitVec.ofNat 32 b.val :=
    ⟨at' (j 0), wrapped_apply s bcast_S_S512 j (at' (j 0)) (by rw [eq_ix1 j]; exact h (j 0))⟩
  have hone : Host.reduce IntOp.andi (inRange (broadcastInDim S512x1 ![0] bcast_S512_S512x1_0 (wrapped s bcast_S_S512)))
      (constantI S_ 1 1#1) reducesTo_S512x1_S512_d1 h_S_ = fun _ => 1#1 :=
    funext (reduce_ones _ _ _ _ (fun i => (hw _).elim fun b hb => inRange_one _ i b hb) fun _ => rfl)
  unfold taken
  dsimp only
  rw [hone]
  refine (select_apply _ _ _ _).trans ((select_one _ _).trans ?_)
  exact gather_apply s bcast_S_S512 gather_S2048x256_S512x1_S512x256_1_0_n_n_0_1_1256 rfl rfl rfl rfl rfl bcast_S512_S512x1_0 x r y (at' r) (h r)

/-! ## The result -/

section Result

variable (m : (ℓ : Loc nD τ sig) → Buf (Elt F) ℓ)
variable (X : Vec F S2048x256 .f32) (D : Vec F S2048 .i32)
variable (tX : Layout.Tiles S512x256 S2048x256 0 4) (tD : Layout.Tiles S512 S2048 0 4)
variable (hX : ∀ c : Dev nD, m ((c : Thread nD τ).loc main_arg0) = Layout.block S512x256 S2048x256 0 4 c X tX)
variable (hD : ∀ c : Dev nD, m ((c : Thread nD τ).loc main_arg1) = Layout.block S512 S2048 0 4 c D tD)

include hX in
theorem xIn_eq (c : Dev nD) : xIn m c = Layout.block S512x256 S2048x256 0 4 c X tX :=
  (V1_of m c main_arg0 (by decide)).trans (hX c)
include hD in
theorem dIn_eq (c : Dev nD) : dIn m c = shapeCast S4x128 (Layout.block S512 S2048 0 4 c D tD) shapeCasts_S512_S4x128 :=
  (after_rows (V0 m c)).trans (congrArg (fun v => shapeCast S4x128 v shapeCasts_S512_S4x128) (hD c))

include hX in
/-- Every device reads the whole x. -/
theorem all_x (c : Dev nD) : V5 m (outs m) c main_v3 = X := by
  have h2 : V2 m (outs m) c main_v2_0 = gX (xIn m) := by rw [V2_outs]; exact VR_0 m c
  refine (V5_of m (outs m) c main_v3 (by decide)).trans ((V4_of m (outs m) c main_v3 (by decide)).trans ((after_stack_x _).trans ?_))
  rw [h2]
  unfold gX
  rw [show xIn m = fun c => Layout.block S512x256 S2048x256 0 4 c X tX from funext (xIn_eq m X tX hX)]
  exact stack_rows X tX _

include hD in
/-- Every device reads the whole dest. -/
theorem all_d (c : Dev nD) : V3 m (outs m) c main_v4 = D := by
  have h2 : V2 m (outs m) c main_v2_1 = gD (dIn m) := by rw [V2_outs]; exact VR_1 m c
  refine (after_stack_d _).trans ?_
  rw [h2]
  unfold gD
  rw [show dIn m = fun c => shapeCast S4x128 (Layout.block S512 S2048 0 4 c D tD) shapeCasts_S512_S4x128 from funext (dIn_eq m D tD hD)]
  exact stack_vec D tD _ _

include hD in
/-- Device `c`'s indices are its share of the argsort. -/
theorem own_positions (c : Dev nD) (r : Fin 512) : (V5 m (outs m) c main_v14 : Vec F S512 .i32) (ix1 r)
    = BitVec.ofNat 32 (order D (⟨512 * c.val + r.val, by have : c.val < 4 := c.isLt; have := r.isLt; omega⟩ : Fin 2048)).val := by
  have h14 : V5 m (outs m) c main_v14
      = Host.dynamicSlice S512 (V4 m (outs m) c main_v5 : Vec F S2048 .i32) (fun _ => (share0 c (Shape.Idx.first h_S_)).toInt) sliceFits_S2048_S512 :=
    after_slice _ c
  have h5 : V4 m (outs m) c main_v5 = (Host.sort2 S2048 0 lower D (iotaInDim S2048 32 0)).2 := by
    refine (after_sort _).trans ?_
    rw [all_d m D tD hD c]
    rfl
  rw [h14, h5]
  refine (slice_apply _ _ _ c (share0_val c) r).trans (argsort_apply D _)

include hX hD in
/-- Row `r` of device `c`'s result is the row of x whose destination comes `512 c + r`-th. -/
theorem result_apply (c : Dev nD) (r : Fin 512) (y : Fin 256) : (V6 m (outs m) c main_v15 : Vec F S512x256 .f32) (ix2 r y)
    = X (ix2 (order D (⟨512 * c.val + r.val, by have : c.val < 4 := c.isLt; have := r.isLt; omega⟩ : Fin 2048)) y) := by
  have h := after_take (V5 m (outs m) c)
  rw [all_x m X tX hX c] at h
  refine (congrFun h (ix2 r y)).trans ?_
  exact taken_apply X _ (fun r => order D ⟨512 * c.val + r.val, by have : c.val < 4 := c.isLt; have := r.isLt; omega⟩) (own_positions m D tD hD c) r y

end Result

end Cert.KernelIdeal.Talk

end
-- ==== Proof.Reference.lean ====
/-
  What the reference's @main leaves, in terms of its arguments; it has no semaphore.
-/
module

public import proofs.«01_k».proof.Proof.Gen.ReferenceIdeal.Run
public import proofs.«01_k».proof.Proof.Values

@[expose] public section

noncomputable section

namespace Cert.ReferenceIdeal.Rows

open Cert.ReferenceIdeal Cert.ReferenceIdeal.Gen Cert.Values
open Idealize.ShloMosaic Idealize.ShloMosaic.TcCoe Idealize.SL.Sem
open Idealize.ShloMosaic.ValueIdx

variable {F : FTy → Type} [FloatOps F]

/-- The rows of `x` in the order of their destinations `d`. -/
def sorted (x : Vec F S2048x256 .f32) (d : Vec F S2048 .i32) : Vec F S2048x256 .f32 :=
  let s := (Host.sort2 S2048 0 comparator_i32_i32_d0 d (iotaInDim S2048 32 0)).2
  Host.gather gather_S2048x256_S2048x1_S2048x256_1_0_n_n_0_1_1256 x
    (broadcastInDim S2048x1 ![0] bcast_S2048_S2048x1_0 (wrapped s bcast_S_S2048))

theorem sorted_apply (x : Vec F S2048x256 .f32) (d : Vec F S2048 .i32) (p : Fin 2048) (y : Fin 256) :
    sorted x d (ix2 p y) = x (ix2 (order d p) y) :=
  gather_apply _ bcast_S_S2048 gather_S2048x256_S2048x1_S2048x256_1_0_n_n_0_1_1256 rfl rfl rfl rfl rfl bcast_S2048_S2048x1_0 x p y
    (order d p) (argsort_apply d (ix1 p))

theorem no_sem (f g : GSem nD τ sig → ℤ) : f = g := by
  funext ⟨_, sm⟩
  exact ((by decide : ∀ sm : SemLoc sig, False) sm).elim

/-- Every run of @main ends with the sorted rows, the arguments unchanged. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = sorted (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.ReferenceIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.DeviceLaunch
public import proofs.«01_k».proof.Proof.IdealValue
public import proofs.«01_k».proof.Proof.Reference
public import Idealize.ShloMosaic.Adequacy
public import Idealize.ShloMosaic.Init

@[expose] public section

noncomputable section

namespace Cert.Proof

open Idealize.ShloMosaic Idealize.SL.Sem Idealize.ShloMosaic.ValueIdx

/-- The device program runs, its arguments unchanged and every counter at zero again. -/
theorem kernel_frame : quiescent_Kernel := fun m g _ =>
  (θ_run _ _ _).mono (fun r h => ⟨fun c =>
    ⟨(h.1 c _ (Finset.mem_filter.mpr ⟨StableHlo.devRef_mem_tcRefs Kernel.main_arg0, by decide⟩)).trans (Kernel.Gen.V6_main_arg0 m _ c),
      (h.1 c _ (Finset.mem_filter.mpr ⟨StableHlo.devRef_mem_tcRefs Kernel.main_arg1, by decide⟩)).trans (Kernel.Gen.V6_main_arg1 m _ c)⟩, h.2⟩)
    (Kernel.Talk.run_main m g)

/-- The ideal program runs, each buffer named by the last item at what that names, and every counter at zero again. -/
theorem ideal_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ fun r =>
      (∀ c : Dev KernelIdeal.nD,
        r.2.mem ((c.tc : Thread KernelIdeal.nD KernelIdeal.τ).loc KernelIdeal.main_v15)
            = KernelIdeal.Gen.V6 m (KernelIdeal.Talk.outs m) c (Proc.devRef .tc KernelIdeal.main_v15)
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0 :=
  (θ_run _ _ _).mono (fun r h => ⟨fun c =>
    ⟨h.1 c (Proc.devRef .tc KernelIdeal.main_v15) (Finset.mem_filter.mpr ⟨StableHlo.devRef_mem_tcRefs KernelIdeal.main_v15, by decide⟩),
      (h.1 c _ (Finset.mem_filter.mpr ⟨StableHlo.devRef_mem_tcRefs KernelIdeal.main_arg0, by decide⟩)).trans (KernelIdeal.Gen.V6_main_arg0 m _ c),
      (h.1 c _ (Finset.mem_filter.mpr ⟨StableHlo.devRef_mem_tcRefs KernelIdeal.main_arg1, by decide⟩)).trans (KernelIdeal.Gen.V6_main_arg1 m _ c)⟩, h.2⟩)
    (KernelIdeal.Talk.run_main m g)

theorem ideal_frame : quiescent_KernelIdeal := fun m g _ =>
  (θ_run _ _ _).mono (fun _ h => ⟨fun c => (h.1 c).2, h.2⟩) (ideal_run m g)

theorem reference_frame : quiescent_ReferenceIdeal := fun m g _ =>
  (θ_run _ _ _).mono (fun _ h => ⟨fun c => (h c).2, ReferenceIdeal.Rows.no_sem _ _⟩) (ReferenceIdeal.Rows.run_main m g)

/-- The result on device `c` is block `c` of the rows sorted by their destinations. -/
theorem result_eq (m : (ℓ : Loc KernelIdeal.nD KernelIdeal.τ KernelIdeal.sig) → Buf (Elt Ideal) ℓ)
    (X : Vec Ideal KernelIdeal.S2048x256 .f32) (D : Vec Ideal KernelIdeal.S2048 .i32)
    (tX : Layout.Tiles KernelIdeal.S512x256 KernelIdeal.S2048x256 0 4) (tD : Layout.Tiles KernelIdeal.S512 KernelIdeal.S2048 0 4)
    (hX : ∀ c : Dev KernelIdeal.nD, m ((c.tc : Thread KernelIdeal.nD KernelIdeal.τ).loc KernelIdeal.main_arg0) = Layout.block KernelIdeal.S512x256 KernelIdeal.S2048x256 0 4 c X tX)
    (hD : ∀ c : Dev KernelIdeal.nD, m ((c.tc : Thread KernelIdeal.nD KernelIdeal.τ).loc KernelIdeal.main_arg1) = Layout.block KernelIdeal.S512 KernelIdeal.S2048 0 4 c D tD)
    (c : Dev KernelIdeal.nD) :
    KernelIdeal.Gen.V6 m (KernelIdeal.Talk.outs m) c (Proc.devRef .tc KernelIdeal.main_v15)
      = Layout.block KernelIdeal.S512x256 KernelIdeal.S2048x256 0 4 c (ReferenceIdeal.Rows.sorted X D) tX := by
  refine funext fun (j : KernelIdeal.S512x256.Idx) => ?_
  obtain ⟨r, y, rfl⟩ : ∃ (r : Fin 512) (y : Fin 256), j = ix2 r y := ⟨j 0, j 1, eq_ix2 j⟩
  refine (KernelIdeal.Talk.result_apply m X D tX tD hX hD c r y).trans ?_
  rw [Layout.block_apply, eq_ix2 (tX.idx c (ix2 r y))]
  refine Eq.trans ?_ (ReferenceIdeal.Rows.sorted_apply X D _ _).symm
  congr 3
  exact Fin.ext (by show 512 * c.val + r.val = c.val * 512 + r.val; omega)

/-- Both programs leave the same rows: the reference all of them, each device its block. -/
theorem same_rows : algebraic_KernelIdeal_ReferenceIdeal := fun m g m' g' _ h =>
  ⟨ReferenceIdeal.Rows.sorted (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1)),
    (θ_run _ _ _).mono (fun _ hr c => ⟨(hr.1 c).1.trans (result_eq m _ _ _ _ (fun c => (h c).1) (fun c => (h c).2) c), (hr.1 c).2⟩) (ideal_run m g),
    (θ_run _ _ _).mono (fun _ hr => hr 0) (ReferenceIdeal.Rows.run_main m' g')⟩

theorem claim : Cert.Claim := ⟨Cert.Kernel.Gen.facts, Cert.KernelIdeal.Gen.facts, Cert.ReferenceIdeal.Gen.facts,
  kernel_frame, ideal_frame, reference_frame, trivial, same_rows⟩

end Cert.Proof

end
